-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S512x128 : Shape := ⟨2, ![512, 128]⟩
abbrev S12 : Shape := ⟨1, ![12]⟩
abbrev S_ : Shape := ⟨0, ![]⟩
abbrev S256x128 : Shape := ⟨2, ![256, 128]⟩
abbrev S1 : Shape := ⟨1, ![1]⟩

abbrev nBuf : Space → Nat
  | .hbm => 3
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S256x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_7 : BitVec 32 := 1#32
  let v11 : BitVec 32 := Scalar.muli v5 c1_i32_7
  let v12 : BitVec 32 := Scalar.addi c0_i32_8 v11
  v12.toNat
def k0_off1 (d0 : Dev nD) (c2_i32 : BitVec 32) : Fin 2 → Nat :=
  let c0_14 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.xori v2 c2_i32
  let c128_i32 : BitVec 32 := 128#32
  let v22 : BitVec 32 := Scalar.muli v5 c128_i32
  let v23 : Index := Scalar.indexCast v22
  ![0, v23.toNat]
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_20 : BitVec 32 := 1#32
  let v30 : BitVec 32 := Scalar.muli v5 c1_i32_20
  let v31 : BitVec 32 := Scalar.addi c0_i32_21 v30
  v31.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_28 : BitVec 32 := 1#32
  let v38 : BitVec 32 := Scalar.muli v5 c1_i32_28
  let v39 : BitVec 32 := Scalar.addi c0_i32_29 v38
  v39.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_40 : BitVec 32 := 1#32
  let v54 : BitVec 32 := Scalar.muli v3 c1_i32_40
  let v55 : BitVec 32 := Scalar.addi c0_i32_41 v54
  v55.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_48 : BitVec 32 := 1#32
  let v62 : BitVec 32 := Scalar.muli v3 c1_i32_48
  let v63 : BitVec 32 := Scalar.addi c0_i32_49 v62
  v63.toNat
def k0_off2 (d0 : Dev nD) : Fin 2 → Nat :=
  let c0_55 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c128_i32_54 : BitVec 32 := 128#32
  let v70 : BitVec 32 := Scalar.muli v4 c128_i32_54
  let v71 : Index := Scalar.indexCast v70
  ![0, v71.toNat]
def k0_dev8 (d0 : Dev nD) : Nat :=
  let c0_i32_62 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_61 : BitVec 32 := 1#32
  let v78 : BitVec 32 := Scalar.muli v4 c1_i32_61
  let v79 : BitVec 32 := Scalar.addi c0_i32_62 v78
  v79.toNat
def k0_dev9 (d0 : Dev nD) : Nat :=
  let c0_i32_69 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_68 : BitVec 32 := 1#32
  let v86 : BitVec 32 := Scalar.muli v4 c1_i32_68
  let v87 : BitVec 32 := Scalar.addi c0_i32_69 v86
  v87.toNat
def k0_off3 (d0 : Dev nD) : Fin 2 → Nat :=
  let c0_75 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_74 : BitVec 32 := 128#32
  let v94 : BitVec 32 := Scalar.muli v2 c128_i32_74
  let v95 : Index := Scalar.indexCast v94
  ![0, v95.toNat]
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_132 : BitVec 32 := 1#32
  let v144 : BitVec 32 := Scalar.muli v5 c1_i32_132
  let v145 : BitVec 32 := Scalar.addi c0_i32_133 v144
  v145.toNat
def k0_dev11 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_139 : BitVec 32 := 1#32
  let v152 : BitVec 32 := Scalar.muli v3 c1_i32_139
  let v153 : BitVec 32 := Scalar.addi c0_i32_140 v152
  v153.toNat
def k0_dev12 (d0 : Dev nD) : Nat :=
  let c0_i32_147 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_146 : BitVec 32 := 1#32
  let v160 : BitVec 32 := Scalar.muli v4 c1_i32_146
  let v161 : BitVec 32 := Scalar.addi c0_i32_147 v160
  v161.toNat
def k0_off4 (d0 : Dev nD) : Fin 2 → Nat :=
  let c0_153 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_152 : BitVec 32 := 128#32
  let v168 : BitVec 32 := Scalar.muli v2 c128_i32_152
  let v169 : Index := Scalar.indexCast v168
  ![0, v169.toNat]
def k0_dev13 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_208 : BitVec 32 := 1#32
  let v217 : BitVec 32 := Scalar.muli v5 c1_i32_208
  let v218 : BitVec 32 := Scalar.addi c0_i32_209 v217
  v218.toNat
def k0_dev14 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_215 : BitVec 32 := 1#32
  let v225 : BitVec 32 := Scalar.muli v3 c1_i32_215
  let v226 : BitVec 32 := Scalar.addi c0_i32_216 v225
  v226.toNat
def k0_dev15 (d0 : Dev nD) : Nat :=
  let c0_i32_223 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_222 : BitVec 32 := 1#32
  let v233 : BitVec 32 := Scalar.muli v4 c1_i32_222
  let v234 : BitVec 32 := Scalar.addi c0_i32_223 v233
  v234.toNat
def k0_off5 (d0 : Dev nD) : Fin 2 → Nat :=
  let c256_229 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_228 : BitVec 32 := 128#32
  let v241 : BitVec 32 := Scalar.muli v2 c128_i32_228
  let v242 : Index := Scalar.indexCast v241
  ![256, v242.toNat]
def k0_off6 (d0 : Dev nD) (c2_i32 : BitVec 32) : Fin 2 → Nat :=
  let c0_248 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.xori v2 c2_i32
  let c128_i32_247 : BitVec 32 := 128#32
  let v256 : BitVec 32 := Scalar.muli v5 c128_i32_247
  let v257 : Index := Scalar.indexCast v256
  ![0, v257.toNat]
def k0_off7 (d0 : Dev nD) : Fin 2 → Nat :=
  let c0_286 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c128_i32_285 : BitVec 32 := 128#32
  let v286 : BitVec 32 := Scalar.muli v4 c128_i32_285
  let v287 : Index := Scalar.indexCast v286
  ![0, v287.toNat]
def k0_off8 (d0 : Dev nD) (c2_i32 : BitVec 32) : Fin 2 → Nat :=
  let c256_305 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.xori v2 c2_i32
  let c128_i32_304 : BitVec 32 := 128#32
  let v301 : BitVec 32 := Scalar.muli v5 c128_i32_304
  let v302 : Index := Scalar.indexCast v301
  ![256, v302.toNat]
def k0_off9 (d0 : Dev nD) : Fin 2 → Nat :=
  let c256_343 : Index := 256#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c128_i32_342 : BitVec 32 := 128#32
  let v331 : BitVec 32 := Scalar.muli v4 c128_i32_342
  let v332 : Index := Scalar.indexCast v331
  ![256, v332.toNat]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Protocol.lean ====
/-
# The protocol of the kernel

Four devices, all-to-all. Each pair of devices is related by one of three involutions (`par 0`: exclusive or
with 2, `par 1`: exclusive or with 1, `par 2`: reflection), and every copy goes along one of them. A device
first signals the barrier semaphore of its three partners, and with the signal it lends the partner the four
half buffers on it that this partner will write. It then makes twelve copies: copies 0..5 carry the halves of the
partial products of the partners' column blocks, copies 6..11 the halves of its own finished column block.
Every copy has its own pair of semaphores.

This module fixes that as a schedule of the rounds library, states the contents that each copy carries, and
states what a device owes at launch and why its waits cannot block each other.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user resource: the pipeline's rounds and the protocol's, whose cells have up to three duties. -/
abbrev UB : Type := Rounds.URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Partners -/

/-- The three partners of a device. -/
def par : Fin 3 → Dev nD → Dev nD
  | 0 => ![2, 3, 0, 1]
  | 1 => ![1, 0, 3, 2]
  | 2 => ![3, 2, 1, 0]

theorem par_par (r : Fin 3) (c : Dev nD) : par r (par r c) = c := by revert r c; decide

/-- A partner relation as a permutation of the devices. -/
def parE (r : Fin 3) : Dev nD ≃ Dev nD := ⟨par r, par r, par_par r, par_par r⟩

/-- The partner relation that copy `j` goes along. -/
def rel : Fin 12 → Fin 3 := ![0, 0, 1, 1, 2, 2, 0, 0, 1, 1, 2, 2]
/-- The half (upper, lower rows) that copy `j` carries. -/
def half : Fin 12 → Fin 2 := ![0, 1, 0, 1, 0, 1, 0, 1, 0, 1, 0, 1]

/-! ## Buffers, halves, semaphores -/

/-- The landing-sized buffer memrefs have this type. -/
abbrev BM : Type := Memref sig .tc .vmem S512x128 .bf16
abbrev HM : Type := Memref sig .tc .vmem S256x128 .bf16

/-- Offsets of the two halves. -/
def hoff : Fin 2 → Fin 2 → ℕ
  | 0 => ![0, 0]
  | 1 => ![256, 0]

theorem hinb : ∀ h : Fin 2, ∀ a, hoff h a + S256x128.size a ≤ S512x128.size a
  | 0 => inb_S512x128_S256x128_0_0
  | 1 => inb_S512x128_S256x128_256_0

/-- The rectangle of a half of a 512 x 128 buffer. -/
abbrev halfR (h : Fin 2) : Rect S512x128 := Rect.unit (s := S512x128) (hoff h) S256x128.size (hinb h)

/-- A half of a buffer. -/
abbrev halfM (M : BM) (h : Fin 2) : HM := M.slice (halfR h) (fun _ => rfl)

/-- A half of a buffer's contents. -/
def halfV (h : Fin 2) (X : Vec F S512x128 .bf16) : Vec F S256x128 .bf16 := fun i => X ((halfR h).emb i)

/-- Where the partial products for the three partners are made. -/
abbrev sbM : Fin 3 → BM
  | 0 => Memref.whole cc0_scratch3
  | 1 => Memref.whole cc0_scratch1
  | 2 => Memref.whole cc0_scratch2
/-- Where the partial products of the three partners land. -/
abbrev rM : Fin 3 → BM
  | 0 => Memref.whole cc0_scratch6
  | 1 => Memref.whole cc0_scratch4
  | 2 => Memref.whole cc0_scratch5
/-- Where the finished blocks of the three partners land. -/
abbrev gM : Fin 3 → BM
  | 0 => Memref.whole cc0_scratch10
  | 1 => Memref.whole cc0_scratch8
  | 2 => Memref.whole cc0_scratch9
/-- Where a device's own finished block is rounded to. -/
abbrev agM : BM := Memref.whole cc0_scratch7

/-- Copy `j` of the first six (partial products) or of the last six (finished blocks). -/
abbrev early (j : Fin 12) : Prop := j.val < 6

/-- The source and the destination half of copy `j`. -/
def srcH (j : Fin 12) : HM := halfM (if early j then sbM (rel j) else agM) (half j)
def dstH (j : Fin 12) : HM := halfM (if early j then rM (rel j) else gM (rel j)) (half j)

/-- The semaphores of copy `j`, and the barrier semaphore. -/
def sendS (j : Fin 12) : DmaSem sig := ⟨3 + j.val, by have := j.isLt; show _ < 27; omega⟩
def recvS (j : Fin 12) : DmaSem sig := ⟨15 + j.val, by have := j.isLt; show _ < 27; omega⟩
abbrev barS : Sem sig := (SemArray.scalar (sig.barrier 0 rfl) : Sems sig S_).sem

abbrev sendCell (c : Dev nD) (j : Fin 12) : GSem nD τ sig := ((c : Thread nD τ), .dma (sendS j))
abbrev recvCell (c : Dev nD) (j : Fin 12) : GSem nD τ sig := ((c : Thread nD τ), .dma (recvS j))
abbrev barCell (c : Dev nD) : GSem nD τ sig := ((c : Thread nD τ), .reg barS)

/-- The credit of one copy: all copies move a half buffer. -/
abbrev N : ℕ := (halfM agM 0).view.dmaCredit
theorem N_pos : 0 < N := View.dmaCredit_pos _ (by decide)

theorem dst_credit (j : Fin 12) : (dstH j).view.dmaCredit = N := by
  match j with
  | 0 | 1 | 2 | 3 | 4 | 5 | 6 | 7 | 8 | 9 | 10 | 11 => rfl

theorem src_credit (j : Fin 12) : (srcH j).view.dmaCredit = N := by
  match j with
  | 0 | 1 | 2 | 3 | 4 | 5 | 6 | 7 | 8 | 9 | 10 | 11 => rfl

/-! ## Contents -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- What device `c` stages of its two arguments. -/
def aIn (c : Dev nD) : (cc0_stg0_0 : Ref sig .tc).ty.Contents (Elt F) :=
  (win0_0.blk (0 : Fin 1)).view.read (Elt F) (m ((c : Thread nD τ).loc main_arg0))
def bIn (c : Dev nD) : (cc0_stg1_0 : Ref sig .tc).ty.Contents (Elt F) :=
  (win0_1.blk (0 : Fin 1)).view.read (Elt F) (m ((c : Thread nD τ).loc main_arg1))

theorem colInb (d : Dev nD) : ∀ a, (![0, 128 * d.val] : Fin 2 → ℕ) a + S256x128.size a ≤ S256x512.size a := by revert d; decide

/-- The columns of the second argument that belong to device `d`. -/
abbrev colR (d : Dev nD) : Rect S256x512 := Rect.unit (s := S256x512) ![0, 128 * d.val] S256x128.size (colInb d)

/-- The rounded second argument of `c`, at the columns of `d`. -/
def colB (c d : Dev nD) : Vec F S256x128 .bf16 :=
  fun i => k0_pay3 (bIn m c) ((colR d).emb i)

/-- The rounded partial product of `c` for its partner along `r`. -/
def sendX (c : Dev nD) (r : Fin 3) : Vec F S512x128 .bf16 := k0_pay4 (aIn m c) (colB m c (par r c))

/-- The half `h` of the partial product that the partner along `r` sends to `c`. -/
def gotX (c : Dev nD) (r : Fin 3) (h : Fin 2) : Vec F S256x128 .bf16 := halfV h (sendX m (par r c) r)

/-- The finished halves of the column block of `c`. -/
def mineX (c : Dev nD) : Fin 2 → Vec F S256x128 .f32
  | 0 => k0_pay11 (k0_pay9 (k0_pay8 (k0_pay2 (aIn m c)) (colB m c c) (gotX m c 0 0)) (gotX m c 1 0) (gotX m c 2 0)) k0_pay10
  | 1 => k0_pay14 (k0_pay13 (k0_pay7 (k0_pay2 (aIn m c)) (colB m c c)) (gotX m c 0 1)) (gotX m c 1 1) (gotX m c 2 1)

/-- The finished halves, rounded. -/
def agX (c : Dev nD) : Fin 2 → Vec F S256x128 .bf16
  | 0 => k0_pay12 (k0_pay9 (k0_pay8 (k0_pay2 (aIn m c)) (colB m c c) (gotX m c 0 0)) (gotX m c 1 0) (gotX m c 2 0)) k0_pay10
  | 1 => k0_pay15 (k0_pay13 (k0_pay7 (k0_pay2 (aIn m c)) (colB m c c)) (gotX m c 0 1)) (gotX m c 1 1) (gotX m c 2 1)

/-- What copy `j` of device `c` carries. -/
def sentX (c : Dev nD) (j : Fin 12) : Vec F S256x128 .bf16 :=
  if early j then halfV (half j) (sendX m c (rel j)) else agX m c (half j)

/-! ## The schedule -/

/-- The share of the source that copy `j` takes: the finished block is read by three copies at a time. -/
def shr (j : Fin 12) : PosShare TreeShare :=
  if early j then fullShare else ![fullShare.left, fullShare.right.left, fullShare.right.right] (rel j)

/-- A half buffer of `c`, whole, at some contents. -/
def anyH (c : Dev nD) (M : HM) : sProp 𝕄 := iprop(∃ X, owns (c : Thread nD τ) M fullShare X)

/-- The copies that go along `r`, two of them early and two late. -/
def along : Fin 3 → Fin 4 → Fin 12
  | 0 => ![0, 1, 6, 7]
  | 1 => ![2, 3, 8, 9]
  | 2 => ![4, 5, 10, 11]

/-- The landing halves on `c` of the copies along `r`. -/
def lend (c : Dev nD) (r : Fin 3) : sProp 𝕄 :=
  iprop(anyH c (dstH (along r 0)) ∗ anyH c (dstH (along r 1)) ∗ anyH c (dstH (along r 2)) ∗ anyH c (dstH (along r 3)))

/-- What the signal of the partner along `r` hands to `c`. -/
def barPay (c : Dev nD) (r : Fin 3) : sProp 𝕄 := lend (par r c) r
/-- What the arrival of copy `j` on `c` hands to `c`. -/
def recvPay (c : Dev nD) (j : Fin 12) : sProp 𝕄 := owns (c : Thread nD τ) (dstH j) fullShare (sentX m (par (rel j) c) j)
/-- What the departure of copy `j` from `c` hands back. -/
def sendPay (c : Dev nD) (j : Fin 12) : sProp 𝕄 := owns (c : Thread nD τ) (srcH j) (shr j) (sentX m c j)

instance anyH_storable (c : Dev nD) (M : HM) : BI.Storable (upEmb : UEmb _ 𝕄) (anyH (F := F) c M) := by unfold anyH; infer_instance
instance barPay_storable (c : Dev nD) (r : Fin 3) : BI.Storable (upEmb : UEmb _ 𝕄) (barPay (F := F) c r) := by
  unfold barPay lend; infer_instance
instance recvPay_storable (c : Dev nD) (j : Fin 12) : BI.Storable (upEmb : UEmb _ 𝕄) (recvPay m c j) := by unfold recvPay; infer_instance
instance sendPay_storable (c : Dev nD) (j : Fin 12) : BI.Storable (upEmb : UEmb _ 𝕄) (sendPay m c j) := by unfold sendPay; infer_instance

/-- The duties of a cell: a barrier cell is raised by the three partners, a copy's cell once. -/
def dutiesOf : SemLoc sig → Finset (Fin 3)
  | .reg _ => Finset.univ
  | .dma q => if 3 ≤ q.val then {0} else ∅

def amountOf' : SemLoc sig → ℕ
  | .reg _ => 1
  | .dma _ => N

def payOf (c : Dev nD) (r : Fin 3) : SemLoc sig → sProp 𝕄
  | .reg _ => barPay c r
  | .dma q => if 15 ≤ q.val then recvPay m c (Fin.ofNat 12 (q.val - 15)) else if 3 ≤ q.val then sendPay m c (Fin.ofNat 12 (q.val - 3)) else iprop(emp)

instance payOf_storable (c : Dev nD) (r : Fin 3) (s : SemLoc sig) : BI.Storable (upEmb : UEmb _ 𝕄) (payOf m c r s) := by
  unfold payOf
  (repeat' split) <;> infer_instance

/-- The schedule: each cell has one round. -/
def kRd : Rounds.Schedule (GSem nD τ sig) (Fin 3) 𝕄 where
  duties g r := if r = 0 ∧ g.1.2 = .tc then dutiesOf g.2 else ∅
  unitless _ := False
  amount g _ _ := amountOf' g.2
  payload g _ d := payOf m g.1.1 d g.2
  amount_pos g _ _ _ := by
    unfold amountOf'; split
    · exact Nat.one_pos
    · exact N_pos

instance kRd_payload_storable (g : GSem nD τ sig) (r : ℕ) (d : Fin 3) : BI.Storable (upEmb : UEmb _ 𝕄) ((kRd (F := F) m).payload g r d) :=
  payOf_storable m g.1.1 d g.2

section Sched
variable (c : Dev nD) (j : Fin 12)

theorem duties_bar : (kRd (F := F) m).duties (barCell c) 0 = Finset.univ := by
  dsimp only [kRd]; exact if_pos ⟨rfl, rfl⟩
theorem duties_send : (kRd (F := F) m).duties (sendCell c j) 0 = {0} := by
  dsimp only [kRd]; exact (if_pos ⟨rfl, rfl⟩).trans (if_pos (Nat.le_add_right 3 j.val))
theorem duties_recv : (kRd (F := F) m).duties (recvCell c j) 0 = {0} := by
  dsimp only [kRd]; exact (if_pos ⟨rfl, rfl⟩).trans (if_pos (show 3 ≤ 15 + j.val by omega))
theorem duties_later (g : GSem nD τ sig) : ∀ r, 1 ≤ r → (kRd (F := F) m).duties g r = ∅ :=
  fun r hr => by dsimp only [kRd]; exact if_neg fun h => by omega

theorem expect_bar : (kRd (F := F) m).expect (barCell c) 0 = 3 := by
  unfold Schedule.expect Schedule.amountOf; rw [duties_bar]; rfl
theorem expect_send : (kRd (F := F) m).expect (sendCell c j) 0 = N := by
  unfold Schedule.expect Schedule.amountOf; rw [duties_send, Finset.sum_singleton]; rfl
theorem expect_recv : (kRd (F := F) m).expect (recvCell c j) 0 = N := by
  unfold Schedule.expect Schedule.amountOf; rw [duties_recv, Finset.sum_singleton]; rfl

theorem payload_bar (r : Fin 3) : (kRd (F := F) m).payload (barCell c) 0 r = barPay c r := rfl
theorem payload_send (r : Fin 3) : (kRd (F := F) m).payload (sendCell c j) 0 r = sendPay m c j := by
  have h1 : ¬ 15 ≤ 3 + j.val := by have := j.isLt; omega
  have h2 : 3 ≤ 3 + j.val := by omega
  have h3 : Fin.ofNat 12 (3 + j.val - 3) = j := Fin.ext (by
    rw [Fin.val_ofNat]; have := j.isLt; omega)
  show (if 15 ≤ 3 + j.val then recvPay m c (Fin.ofNat 12 (3 + j.val - 15)) else if 3 ≤ 3 + j.val then sendPay m c (Fin.ofNat 12 (3 + j.val - 3)) else iprop(emp)) = _
  rw [if_neg h1, if_pos h2, h3]
theorem payload_recv (r : Fin 3) : (kRd (F := F) m).payload (recvCell c j) 0 r = recvPay m c j := by
  have h1 : 15 ≤ 15 + j.val := by omega
  have h3 : Fin.ofNat 12 (15 + j.val - 15) = j := Fin.ext (by
    rw [Fin.val_ofNat]; have := j.isLt; omega)
  show (if 15 ≤ 15 + j.val then recvPay m c (Fin.ofNat 12 (15 + j.val - 15)) else if 3 ≤ 15 + j.val then sendPay m c (Fin.ofNat 12 (15 + j.val - 3)) else iprop(emp)) = _
  rw [if_pos h1, h3]

theorem rest_bar : bigSep ((kRd (F := F) m).duties (barCell c) 0 \ ∅) (fun u => (kRd (F := F) m).payload (barCell c) 0 u)
    = iprop(barPay c 0 ∗ barPay c 1 ∗ barPay c 2) := by
  rw [Finset.sdiff_empty, duties_bar]
  exact bigSep_univ_eq_bigSepL [(0 : Fin 3), (1 : Fin 3), (2 : Fin 3)] (by decide) (by decide) _
theorem rest_send : bigSep ((kRd (F := F) m).duties (sendCell c j) 0 \ ∅) (fun u => (kRd (F := F) m).payload (sendCell c j) 0 u) = sendPay m c j := by
  rw [Finset.sdiff_empty, duties_send, bigSep_singleton, payload_send]
theorem rest_recv : bigSep ((kRd (F := F) m).duties (recvCell c j) 0 \ ∅) (fun u => (kRd (F := F) m).payload (recvCell c j) 0 u) = recvPay m c j := by
  rw [Finset.sdiff_empty, duties_recv, bigSep_singleton, payload_recv]

end Sched

/-! ## What a device owes; the levels -/

/-- What `c` owes while the copies in `l` are still to be made: each partner's credit. -/
def tal (c : Dev nD) : List (Fin 12) → CellTallies nD τ sig Unit
  | [] => 0
  | j :: l => tal c l + tallyAt (recvCell (par (rel j) c) j) () N

/-- The copies in the order the kernel makes them. -/
abbrev order : List (Fin 12) := [0, 1, 2, 3, 4, 5, 6, 8, 10, 7, 9, 11]

/-- What a device owes at launch: all its copies, and a unit to each partner's barrier. -/
def O₀ (c : Dev nD) : CellTallies nD τ sig Unit :=
  ((tal c order + tallyAt (barCell (par 0 c)) () 1) + tallyAt (barCell (par 2 c)) () 1) + tallyAt (barCell (par 1 c)) () 1

def L (g : GSem nD τ sig) : Finset Unit := if g.1.2 = .tc then {()} else ∅

/-- The level of a semaphore: departures and the staging 0, barrier 1, early arrivals 2, late arrivals 3. -/
def lvS : SemLoc sig → ℕ
  | .reg _ => 1
  | .dma q => if 21 ≤ q.val then 3 else if 15 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tallyAt_pos' {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem tal_pos {c : Dev nD} {l : List (Fin 12)} {g : GSem nD τ sig} {u : Unit} (h : 0 < tal c l g u) :
    ∃ j ∈ l, g = recvCell (par (rel j) c) j := by
  induction l with
  | nil => exact absurd h (Nat.lt_irrefl 0)
  | cons j l ih =>
    unfold tal at h
    rw [Pi.add_apply, Finsupp.add_apply] at h
    rcases Nat.eq_zero_or_pos (tal c l g u) with h0 | h0
    · rw [h0, Nat.zero_add] at h
      exact ⟨j, List.mem_cons_self, tallyAt_pos' h⟩
    · obtain ⟨i, hi, e⟩ := ih h0
      exact ⟨i, List.mem_cons_of_mem _ hi, e⟩

theorem O₀_pos {c : Dev nD} {g : GSem nD τ sig} {u : Unit} (h : 0 < O₀ c g u) :
    (∃ j, g = recvCell (par (rel j) c) j) ∨ ∃ r, g = barCell (par r c) := by
  unfold O₀ at h
  simp only [Pi.add_apply, Finsupp.add_apply] at h
  by_contra hn
  simp only [not_or, not_exists] at hn
  have h1 : tal c order g u = 0 := Nat.eq_zero_of_not_pos fun hp => by
    obtain ⟨j, -, e⟩ := tal_pos hp; exact hn.1 j e
  have hb : ∀ r, tallyAt (barCell (par r c)) () 1 g u = 0 := fun r =>
    Nat.eq_zero_of_not_pos fun hp => hn.2 r (tallyAt_pos' hp)
  rw [h1, hb, hb, hb] at h
  exact Nat.lt_irrefl 0 h

theorem lv_recv (c : Dev nD) (j : Fin 12) : 2 ≤ lv (recvCell c j) () := by
  show 2 ≤ if 21 ≤ 15 + j.val then 3 else if 15 ≤ 15 + j.val then 2 else 0
  rw [if_pos (show 15 ≤ 15 + j.val by omega)]; split <;> omega

/-- A wait is allowed while everything still owed is on a TensorCore's semaphores of higher levels. -/
theorem mayWait_above (c : Dev nD) (sm : SemLoc sig) (O : CellTallies nD τ sig Unit)
    (h : ∀ (g : GSem nD τ sig) (u : Unit), 0 < O g u → g.1.2 = .tc ∧ lvS sm < lvS g.2) :
    (levAts L lv : sProp 𝕄) ⊢ MayWait (c : Thread nD τ) sm () O :=
  MayOwe.of_cut (L := L) (lev := lv) (lvS sm)
    (fun p hp => by obtain rfl := Finset.mem_singleton.mp hp; exact Finset.mem_singleton_self _)
    (fun g u hg => by unfold L; rw [if_pos (h g u hg).1]; exact Finset.mem_singleton_self _)
    (fun p hp => by obtain rfl := Finset.mem_singleton.mp hp; exact le_rfl)
    (fun g u hg => (h g u hg).2)

/-- So while copies of higher levels only are still to be made. -/
theorem mayWait_list (c : Dev nD) (sm : SemLoc sig) (l : List (Fin 12)) (h : ∀ j ∈ l, lvS sm < lvS (.dma (recvS j))) :
    (levAts L lv : sProp 𝕄) ⊢ MayWait (c : Thread nD τ) sm () (tal c l) :=
  mayWait_above c sm _ fun g u hg => by obtain ⟨j, hj, rfl⟩ := tal_pos hg; exact ⟨rfl, h j hj⟩

/-- The staging's waits are allowed throughout: its semaphores have the lowest level. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O :=
  mayWait_above c _ O fun g u hg => by
    rw [hq]
    obtain rfl := hO.resolve_right fun h0 => by rw [h0] at hg; exact Nat.lt_irrefl 0 hg
    obtain ⟨j, rfl⟩ | ⟨r, rfl⟩ := O₀_pos hg
    · exact ⟨rfl, Nat.lt_of_lt_of_le Nat.two_pos (lv_recv _ j)⟩
    · exact ⟨rfl, Nat.one_pos⟩

end Cert.KProof

end
-- ==== Proof.Steps.lean ====
/-
# One step of each kind

What a device holds of each copy before, between and after its steps, and one lemma for each kind of step of the
kernel: the signal, the barrier's wait, the start of a copy, the wait for its departure, the wait for the
arrival of the partner's copy, and loads and stores. Each is stated for every device and every copy.
-/
module

public import proofs.«01_k».proof.Proof.Protocol

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, and what is known of all of them -/

/-- The semaphores of the protocol on a device: the barrier, twelve departures, twelve arrivals. -/
abbrev CellIx : Type := Unit ⊕ (Fin 12 ⊕ Fin 12)
abbrev csem : CellIx → SemLoc sig
  | .inl _ => .reg barS
  | .inr (.inl j) => .dma (sendS j)
  | .inr (.inr j) => .dma (recvS j)
abbrev kcell (x : Dev nD × CellIx) : GSem nD τ sig := ((x.1 : Thread nD τ), csem x.2)

abbrev bIx : CellIx := .inl ()
abbrev sIx (j : Fin 12) : CellIx := .inr (.inl j)
abbrev rIx (j : Fin 12) : CellIx := .inr (.inr j)

/-- Every cell's invariant is there and every cell has reached its one round. -/
def recs (K : Dev nD × CellIx → ℕ) : sProp 𝕄 :=
  iprop(bigSep Finset.univ (fun x => cellInv ER (kRd m) (K x) (kcell x)) ∗ bigSep Finset.univ (fun x => reached ER (kcell x) 0))

instance recs_persistent (K : Dev nD × CellIx → ℕ) : BI.Persistent (recs m K) := by unfold recs; infer_instance

variable (K : Dev nD × CellIx → ℕ)

theorem recs_inv (x : Dev nD × CellIx) : recs m K ⊢ cellInv ER (kRd m) (K x) (kcell x) := by
  unfold recs; iintro ⟨H, -⟩; iapply (show bigSep Finset.univ (fun x => cellInv ER (kRd m) (K x) (kcell x)) ⊢ (cellInv ER (kRd m) (K x) (kcell x) : sProp 𝕄) from bigSep_elim (Finset.mem_univ x)); iexact H
theorem recs_reached (x : Dev nD × CellIx) : recs m K ⊢ reached ER (kcell x) 0 := by
  unfold recs; iintro ⟨-, H⟩; iapply (show bigSep Finset.univ (fun x => reached ER (kcell x) 0) ⊢ (reached ER (kcell x) 0 : sProp 𝕄) from bigSep_elim (Finset.mem_univ x)); iexact H

theorem inv_bar (c : Dev nD) : recs m K ⊢ cellInv ER (kRd m) (K (c, bIx)) (barCell c) :=
  (recs_inv m K (c, bIx))
theorem inv_send (c : Dev nD) (j : Fin 12) : recs m K ⊢ cellInv ER (kRd m) (K (c, sIx j)) (sendCell c j) :=
  (recs_inv m K (c, sIx j))
theorem inv_recv (c : Dev nD) (j : Fin 12) : recs m K ⊢ cellInv ER (kRd m) (K (c, rIx j)) (recvCell c j) :=
  (recs_inv m K (c, rIx j))
theorem reached_bar (c : Dev nD) : recs m K ⊢ reached ER (barCell c) 0 :=
  (recs_reached m K (c, bIx))
theorem reached_send (c : Dev nD) (j : Fin 12) : recs m K ⊢ reached ER (sendCell c j) 0 :=
  (recs_reached m K (c, sIx j))
theorem reached_recv (c : Dev nD) (j : Fin 12) : recs m K ⊢ reached ER (recvCell c j) 0 :=
  (recs_reached m K (c, rIx j))

/-! ## What a device holds of each copy -/

/-- What a device owes, whatever it has waited for. -/
def ow (c : Dev nD) (O : CellTallies nD τ sig Unit) : sProp 𝕄 := iprop(∃ W, owes (c : Thread nD τ) O W)

/-- Before the start of copy `j`. -/
def j0 (c : Dev nD) (j : Fin 12) : sProp 𝕄 :=
  iprop(dutyTok ER (sendCell c j) 0 (0 : Fin 3) ∗ dutyTok ER (recvCell (par (rel j) c) j) 0 (0 : Fin 3)
    ∗ atPos ER (sendCell c j) 0 (∅ : Finset (Fin 3)) 0 ∗ atPos ER (recvCell c j) 0 (∅ : Finset (Fin 3)) 0 ∗ cred (tallyAt (recvCell c j) () N))
/-- Copy `j` is under way. -/
def j1 (c : Dev nD) (j : Fin 12) : sProp 𝕄 :=
  iprop(cred (tallyAt (sendCell c j) () N)
    ∗ atPos ER (sendCell c j) 0 (∅ : Finset (Fin 3)) 0 ∗ atPos ER (recvCell c j) 0 (∅ : Finset (Fin 3)) 0 ∗ cred (tallyAt (recvCell c j) () N))
/-- Copy `j` has left. -/
def j2 (c : Dev nD) (j : Fin 12) : sProp 𝕄 :=
  iprop(semVal (sendCell c j) 0 ∗ atPos ER (recvCell c j) 0 (∅ : Finset (Fin 3)) 0 ∗ cred (tallyAt (recvCell c j) () N))
/-- Copy `j` has left, and the partner's has come. -/
def j3 (c : Dev nD) (j : Fin 12) : sProp 𝕄 := iprop(semVal (sendCell c j) 0 ∗ semVal (recvCell c j) 0)

section Steps

/-- The signal to the partner along `r` lends it the landing halves of the copies along `r`. -/
theorem step_signal (c n : Dev nD) (r : Fin 3) (hn : n = par r c) (O : CellTallies nD τ sig Unit)
    {α : Type} {Q : α → sProp 𝕄} {k : PUnit → Prog (TpuEff nD τ sig (Elt F) Λ₀ .tc) α} :
    recs m K
      ⊢ iprop(dutyTok ER (barCell (par r c)) 0 r -∗ lend c r -∗ ow c (O + tallyAt (barCell (par r c)) () 1) -∗ (ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold ow
  iintro #HR Ht Hl ⟨%W, HO⟩ Hk
  iapply (Rounds.wp_signal 𝒱₀ ER (kRd m) (c : Thread nD τ) none (dst := (par r c : Thread nD τ)) (κ := K (par r c, bIx)) (r := 0) (d := r)
      (by rw [duties_bar]; exact Finset.mem_univ _) rfl () O rfl (W := W)) $$ [HO Ht Hl]
  · isplitr; · iapply (inv_bar m K (par r c)); iexact HR
    isplitl [HO]; · iexact HO
    isplitl [Ht]; · iexact Ht
    isplitl [Hl]
    · rw [payload_bar]; unfold barPay; rw [par_par]; iexact Hl
    · iapply (reached_bar m K (par r c)); iexact HR
  iintro HO
  iapply Hk; iexists W; iexact HO

/-- The barrier's wait brings the landing halves on the three partners. -/
theorem step_barrier (c : Dev nD) {α : Type} {Q : α → sProp 𝕄} {k : PUnit → Prog (TpuEff nD τ sig (Elt F) Λ₀ .tc) α} :
    recs m K
      ⊢ iprop(levAts L lv -∗ cred (tallyAt (barCell c) () 3) -∗ atPos ER (barCell c) 0 (∅ : Finset (Fin 3)) 0 -∗ ow c (tal c order) -∗ ((ow c (tal c order) ∗ semVal (barCell c) 0 ∗ lend (par 0 c) 0 ∗ lend (par 1 c) 1 ∗ lend (par 2 c) 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold ow
  iintro #HR #Hlev Hc Hat ⟨%W, HO⟩ Hk
  iapply (Rounds.wp_wait_rest_token 𝒱₀ ER (kRd m) (c : Thread nD τ) none (κ := K (c, bIx))
      (wpE_semWait_eq 𝒱₀ (c : Thread nD τ) none Set.univ) (Set.mem_univ _) () (O := tal c order) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_list c (.reg barS) order (by decide)); iexact Hlev
    iexact Hat
  iintro ⟨HO, Hat, -, Hpay⟩
  ihave Hp := (Entails.of_eq (rest_bar m c)) $$ Hpay
  imod (Rounds.cell_close ER (kRd m) (Set.mem_univ (K (c, bIx))) (fun h => h) (R := 0 + 1) (duties_later m (barCell c))) $$ [Hat] with Hz
  · isplitr; · iapply (inv_bar m K c); iexact HR
    iexact Hat
  iapply Hk
  unfold barPay
  icases Hp with ⟨H0, H1, H2⟩
  isplitl [HO]; · iexists _; iexact HO
  isplitl [Hz]; · iexact Hz
  isplitl [H0]; · iexact H0
  isplitl [H1] <;> iassumption

/-- The start of copy `j`: it takes the source half at the contents the schedule names and the partner's half. -/
theorem step_copy (c n : Dev nD) (j : Fin 12) (l : List (Fin 12)) {src dst : HM} {sS sR : DmaSem sig}
    (hsrcE : src = srcH j) (hdstE : dst = dstH j) (hsS : sS = sendS j) (hsR : sR = recvS j) (hn : n = par (rel j) c)
    {hsc : (dst : Memref sig (Dev.tc n : Thread nD τ).2.kind .vmem S256x128 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    recs m K
      ⊢ iprop(j0 c j -∗ owns (c : Thread nD τ) (srcH j) (shr j) (sentX m c j) -∗ anyH (par (rel j) c) (dstH j) -∗ ow c (tal c (j :: l)) -∗ ((j1 c j ∗ ow c (tal c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hsrcE hdstE hsS hsR hn
  unfold ow j0 anyH owns
  iintro #HR ⟨Ht1, Ht2, Hw⟩ ⟨%fs, %hfs, Hs⟩ ⟨%X, %fd, %hfd, Hd⟩ ⟨%W, HO⟩ Hk
  iapply (Rounds.wp_send_pointsTo 𝒱₀ ER (kRd m) (c : Thread nD τ) none (κ₁ := K (c, sIx j)) (κ₂ := K (par (rel j) c, rIx j))
    (r₁ := 0) (r₂ := 0) (d₁ := (0 : Fin 3)) (d₂ := (0 : Fin 3)) (fd := fd) (q := shr j) (fs := fs)
    (by rw [duties_send]; exact Finset.mem_singleton_self _) (by rw [duties_recv]; exact Finset.mem_singleton_self _)
    () () N (by exact dst_credit j) rfl rfl (tal c l) rfl (W := W)
    (by
      rw [payload_send]; unfold sendPay owns
      iintro H; iexists fs; isplitr; · ipureintro; exact hfs
      iexact H)
    (by
      rw [payload_recv]; unfold recvPay owns
      iintro H; iexists _; isplitr
      rotate_left
      · iexact H
      · ipureintro; rw [View.read_write_univ, hfs, par_par])) $$ [Hs Hd HO Ht1 Ht2]
  · isplitr; · iapply (inv_send m K c j); iexact HR
    isplitr; · iapply (inv_recv m K (par (rel j) c) j); iexact HR
    isplitl [Hs]; · iexact Hs
    isplitl [Hd]; · iexact Hd
    isplitl [HO]; · iexact HO
    isplitl [Ht1]; · iexact Ht1
    isplitr; · iapply (reached_send m K c j); iexact HR
    isplitl [Ht2]; · iexact Ht2
    iapply (reached_recv m K (par (rel j) c) j); iexact HR
  iintro ⟨Hc, HO⟩
  iapply Hk
  unfold j1
  isplitl [Hc Hw]
  · isplitl [Hc] <;> iassumption
  iexists W; iexact HO

theorem lv_send (j : Fin 12) : lvS (.dma (sendS j)) = 0 := by revert j; decide

/-- The wait for the departure of copy `j` returns the source half. -/
theorem step_left (c : Dev nD) (j : Fin 12) (l : List (Fin 12)) {src dst : HM} {s : DmaSem sig} (hs : s = sendS j) (hd : dst = srcH j)
    {hsrc : src.view.WordExact} {hdst : dst.view.WordExact} {α : Type} {Q : α → sProp 𝕄} {k : PUnit → Prog (TpuEff nD τ sig (Elt F) Λ₀ .tc) α} :
    recs m K
      ⊢ iprop(levAts L lv -∗ j1 c j -∗ ow c (tal c l) -∗ ((j2 c j ∗ owns (c : Thread nD τ) (srcH j) (shr j) (sentX m c j) ∗ ow c (tal c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs hd
  unfold ow j1
  iintro #HR #Hlev ⟨Hc, Hat, Hw⟩ ⟨%W, HO⟩ Hk
  iapply (Rounds.wp_wait_rest_token 𝒱₀ ER (kRd m) (c : Thread nD τ) none (κ := K (c, sIx j))
      (wpE_waitDma2_eq 𝒱₀ (c : Thread nD τ) none Set.univ) (Set.mem_univ _) () (O := tal c l) (W := W) (R := 0) (m := 0) (T := ∅)
      (by rw [Nat.zero_add, expect_send, src_credit])) $$ [Hc HO Hat]
  · isplitr; · iapply (inv_send m K c j); iexact HR
    isplitl [Hc]; · rw [src_credit]; iexact Hc
    isplitl [HO]; · iexact HO
    isplitr
    · iapply (mayWait_list c (.dma (sendS j)) l (fun i _ => by rw [lv_send]; exact Nat.lt_of_lt_of_le (by decide) (lv_recv c i))); iexact Hlev
    iexact Hat
  iintro ⟨HO, Hat, -, Hpay⟩
  ihave Hp := (Entails.of_eq (rest_send m c j)) $$ Hpay
  imod (Rounds.cell_close ER (kRd m) (Set.mem_univ (K (c, sIx j))) (fun h => h) (R := 0 + 1) (duties_later m (sendCell c j))) $$ [Hat] with Hz
  · isplitr; · iapply (inv_send m K c j); iexact HR
    iexact Hat
  iapply Hk
  unfold sendPay j2
  isplitl [Hz Hw]
  · isplitl [Hz] <;> iassumption
  isplitl [Hp]; · iexact Hp
  iexists _; iexact HO

/-- The wait for the arrival of the partner's copy `j` brings the landing half at what the partner sent. -/
theorem step_came (c : Dev nD) (j : Fin 12) (l : List (Fin 12)) {src dst : HM} {s : DmaSem sig} (hs : s = recvS j) (hd : dst = dstH j)
    (hl : ∀ i ∈ l, lvS (.dma (recvS j)) < lvS (.dma (recvS i)))
    {hsrc : src.view.WordExact} {hdst : dst.view.WordExact} {α : Type} {Q : α → sProp 𝕄} {k : PUnit → Prog (TpuEff nD τ sig (Elt F) Λ₀ .tc) α} :
    recs m K
      ⊢ iprop(levAts L lv -∗ j2 c j -∗ ow c (tal c l) -∗ ((j3 c j ∗ owns (c : Thread nD τ) (dstH j) fullShare (sentX m (par (rel j) c) j) ∗ ow c (tal c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs hd
  unfold ow j2
  iintro #HR #Hlev ⟨Hz0, Hat, Hc⟩ ⟨%W, HO⟩ Hk
  iapply (Rounds.wp_wait_rest_token 𝒱₀ ER (kRd m) (c : Thread nD τ) none (κ := K (c, rIx j))
      (wpE_waitDma2_eq 𝒱₀ (c : Thread nD τ) none Set.univ) (Set.mem_univ _) () (O := tal c l) (W := W) (R := 0) (m := 0) (T := ∅)
      (by rw [Nat.zero_add, expect_recv, dst_credit])) $$ [Hc HO Hat]
  · isplitr; · iapply (inv_recv m K c j); iexact HR
    isplitl [Hc]; · rw [dst_credit]; iexact Hc
    isplitl [HO]; · iexact HO
    isplitr
    · iapply (mayWait_list c (.dma (recvS j)) l hl); iexact Hlev
    iexact Hat
  iintro ⟨HO, Hat, -, Hpay⟩
  ihave Hp := (Entails.of_eq (rest_recv m c j)) $$ Hpay
  imod (Rounds.cell_close ER (kRd m) (Set.mem_univ (K (c, rIx j))) (fun h => h) (R := 0 + 1) (duties_later m (recvCell c j))) $$ [Hat] with Hz
  · isplitr; · iapply (inv_recv m K c j); iexact HR
    iexact Hat
  iapply Hk
  unfold recvPay j3
  isplitl [Hz0 Hz]
  · isplitl [Hz0] <;> iassumption
  isplitl [Hp]; · iexact Hp
  iexists _; iexact HO

/-! ## Loads and stores -/

/-- Contents with a rectangle overwritten. -/
def upd {s : Shape} {e : EltTy} (r : Rect s) (w : r.shape.Idx → Elt F e) (X : s.Idx → Elt F e) : s.Idx → Elt F e :=
  fun y => open Classical in if h : ∃ i, r.emb i = y then w h.choose else X y

theorem upd_emb {s : Shape} {e : EltTy} (r : Rect s) (w : r.shape.Idx → Elt F e) (X : s.Idx → Elt F e) (i : r.shape.Idx) :
    upd r w X (r.emb i) = w i := by
  have h : ∃ i', r.emb i' = r.emb i := ⟨i, rfl⟩
  unfold upd
  rw [dif_pos h, r.emb.injective h.choose_spec]

theorem upd_off {s : Shape} {e : EltTy} (r : Rect s) (w : r.shape.Idx → Elt F e) (X : s.Idx → Elt F e) {y : s.Idx} (h : ¬ ∃ i, r.emb i = y) :
    upd r w X y = X y := by
  unfold upd; rw [dif_neg h]

/-- A load of a rectangle of an owned memref reads its contents there. -/
theorem step_load (c : Dev nD) {s : Shape} {e : EltTy} (M : Memref sig .tc .vmem s e) (r : Rect s) (q : PosShare TreeShare) (X : s.Idx → Elt F e)
    {hl : M.view.LoadsAt r.toLoadRect} {α : Type} {Q : α → sProp 𝕄} {k : (r.shape.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k fun i => X (r.emb i)) Q)
          -∗ wp frame (wpE (defs₀ (F := F)) 𝒱₀ (c : Thread nD τ) none) Set.univ (.op (.load M r.toLoadRect hl) k) Q) := by
  unfold owns
  iintro ⟨%f, %hf, H⟩ Hk
  iapply (wp_load 𝒱₀ (c : Thread nD τ) none Set.univ (m := M) (r := r.toLoadRect) (M.view.setOn_subset_set _)) $$ H; iintro H
  rw [show M.view.readAt (Elt F) r.toLoadRect f = fun i => X (r.emb i) from by rw [← hf]; rfl]
  iapply Hk
  iexists f; isplitr; · ipureintro; exact hf
  iexact H

/-- A store to a rectangle of an owned memref overwrites its contents there. -/
theorem step_store (c : Dev nD) {s : Shape} {e : EltTy} (M : Memref sig .tc .vmem s e) (r : Rect s) (w : r.shape.Idx → Elt F e) (X : s.Idx → Elt F e)
    {hx : (M.access r).Stores Finset.univ} {hm : Finset.univ = Finset.univ ∨ ∀ a, r.stride a = 1}
    {α : Type} {Q : α → sProp 𝕄} {k : PUnit → Prog (TpuEff nD τ sig (Elt F) Λ₀ .tc) α} :
    (owns (c : Thread nD τ) M fullShare X : sProp 𝕄)
      ⊢ iprop((owns (c : Thread nD τ) M fullShare (upd r w X) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (w := w) (Mk := Finset.univ)
    ((View.setOn_subset_set _ _).trans (M.view.set_slice_subset r))) $$ H; iintro H
  iapply Hk
  iexists _; isplitr
  rotate_left
  · iexact H
  · ipureintro
    funext y
    by_cases h : ∃ i, r.emb i = y
    · obtain ⟨i, rfl⟩ := h
      rw [upd_emb]; exact View.read_slice_write_emb r f w (Finset.mem_univ i)
    · rw [upd_off r w X h, ← hf]
      exact View.read_slice_write_of_not_mem r f w Finset.univ (fun hm => h (by
        obtain ⟨i, -, e⟩ := Finset.mem_map.mp hm; exact ⟨i, e⟩))

/-- A load of the half that is owned. -/
theorem step_load_half (c : Dev nD) (H : HM) (M : BM) {o : Fin 2 → ℕ} {hin : ∀ a, o a + S256x128.size a ≤ S512x128.size a}
    (hH : H = M.slice (Rect.unit (s := S512x128) o S256x128.size hin) (fun _ => rfl)) (q : PosShare TreeShare) (X : Vec F S256x128 .bf16)
    {hl : M.view.LoadsAt (Rect.unit (s := S512x128) o S256x128.size hin).toLoadRect}
    {α : Type} {Q : α → sProp 𝕄} {k : Vec F S256x128 .bf16 → Prog (TpuEff nD τ sig (Elt F) Λ₀ .tc) α} :
    (owns (c : Thread nD τ) H q X : sProp 𝕄)
      ⊢ iprop((owns (c : Thread nD τ) H q X -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit (s := S512x128) o S256x128.size hin).toLoadRect hl) k) Q) := by
  subst hH
  unfold owns
  iintro ⟨%f, %hf, H⟩ Hk
  iapply (wp_load_rect 𝒱₀ (c : Thread nD τ) none Set.univ (m := M) (r := Rect.unit (s := S512x128) o S256x128.size hin) (Finset.Subset.refl _)) $$ H; iintro H
  rw [show (M.access (Rect.unit (s := S512x128) o S256x128.size hin)).read (Elt F) f = X from hf]
  iapply Hk
  iexists f; isplitr; · ipureintro; exact hf
  iexact H

/-- A store to the half that is owned. -/
theorem step_store_half (c : Dev nD) (H : HM) (M : BM) {o : Fin 2 → ℕ} {hin : ∀ a, o a + S256x128.size a ≤ S512x128.size a}
    (hH : H = M.slice (Rect.unit (s := S512x128) o S256x128.size hin) (fun _ => rfl)) (w : Vec F S256x128 .bf16)
    {hx : (M.access (Rect.unit (s := S512x128) o S256x128.size hin)).Stores Finset.univ}
    {hm : Finset.univ = Finset.univ ∨ ∀ a, (Rect.unit (s := S512x128) o S256x128.size hin).stride a = 1}
    {α : Type} {Q : α → sProp 𝕄} {k : PUnit → Prog (TpuEff nD τ sig (Elt F) Λ₀ .tc) α} (X : Vec F S256x128 .bf16) :
    (owns (c : Thread nD τ) H fullShare X : sProp 𝕄)
      ⊢ iprop((owns (c : Thread nD τ) H fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := S512x128) o S256x128.size hin) w Finset.univ hx hm) k) Q) := by
  subst hH
  unfold owns
  iintro ⟨%f, %hf, H⟩ Hk
  iapply (wp_store 𝒱₀ (c : Thread nD τ) none Set.univ (m := M) (r := Rect.unit (s := S512x128) o S256x128.size hin) (w := w) (Mk := Finset.univ)
    (View.setOn_subset_set _ _)) $$ H; iintro H
  iapply Hk
  iexists _; isplitr
  rotate_left
  · iexact H
  · ipureintro; exact View.read_write_univ f w

end Steps

/-! ## Whole rectangles, and halves -/

theorem hz : (![0, 0] : Fin 2 → ℕ) = fun _ => 0 := funext fun a => by fin_cases a <;> rfl

/-- The rectangle of a whole shape is the identity. -/
theorem emb_full {s : Shape} {o : Fin s.rank → ℕ} (ho : o = fun _ => 0) (hin : ∀ a, o a + s.size a ≤ s.size a) (i : s.Idx) :
    (Rect.unit (s := s) o s.size hin).emb i = i := by
  subst ho; exact Rect.emb_whole_apply _ i

theorem upd_full {s : Shape} {e : EltTy} {o : Fin s.rank → ℕ} (ho : o = fun _ => 0) (hin : ∀ a, o a + s.size a ≤ s.size a)
    (w : s.Idx → Elt F e) (X : s.Idx → Elt F e) : upd (Rect.unit (s := s) o s.size hin) w X = w := by
  funext y
  have h := upd_emb (Rect.unit (s := s) o s.size hin) w X y
  rw [emb_full ho] at h
  exact h

theorem load_full {s : Shape} {e : EltTy} (X : s.Idx → Elt F e) {o : Fin s.rank → ℕ} (ho : o = fun _ => 0) (hin : ∀ a, o a + s.size a ≤ s.size a) :
    (fun i => X ((Rect.unit (s := s) o s.size hin).emb i)) = X := funext fun i => by rw [emb_full ho]

theorem half_mem (h : Fin 2) (i : S512x128.Idx) : i ∈ (halfR h).set ↔ h.val = (i 0).val / 256 := by
  rw [Rect.mem_set_unit]
  have h0 : (i 0).val < 512 := (i 0).isLt
  have h1 : (i 1).val < 128 := (i 1).isLt
  constructor
  · intro hm
    have := hm 0
    match h with
    | 0 => have : (i 0).val < 0 + 256 := this.2; show 0 = _; omega
    | 1 => have : 256 ≤ (i 0).val := this.1; show 1 = _; omega
  · intro e a
    match h, a with
    | 0, 0 => have e : 0 = (i 0).val / 256 := e; exact ⟨Nat.zero_le _, by show (i 0).val < 0 + 256; omega⟩
    | 0, 1 => exact ⟨Nat.zero_le _, by show (i 1).val < 0 + 128; omega⟩
    | 1, 0 => have e : 1 = (i 0).val / 256 := e; exact ⟨by show 256 ≤ (i 0).val; omega, by show (i 0).val < 256 + 256; omega⟩
    | 1, 1 => exact ⟨Nat.zero_le _, by show (i 1).val < 0 + 128; omega⟩

theorem half_disj (h h' : Fin 2) (hne : h ≠ h') : Disjoint (halfR h).set (halfR h').set :=
  Finset.disjoint_left.mpr fun i hi hi' => hne (Fin.ext (((half_mem h i).mp hi).trans ((half_mem h' i).mp hi').symm))

theorem half_cover : (Finset.univ : Finset (Fin 2)).biUnion (fun h => (halfR h).set) = Finset.univ :=
  Finset.eq_univ_iff_forall.mpr fun i => Finset.mem_biUnion.mpr
    ⟨⟨(i 0).val / 256, by have : (i 0).val < 512 := (i 0).isLt; omega⟩, Finset.mem_univ _, (half_mem _ i).mpr rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ

/-- An owned buffer is its two halves. -/
theorem split_halves (c : Dev nD) (M : BM) (q : PosShare TreeShare) (X : Vec F S512x128 .bf16) :
    (owns (c : Thread nD τ) M q X : sProp 𝕄) ⊢ iprop(owns (c : Thread nD τ) (halfM M 0) q (halfV 0 X) ∗ owns (c : Thread nD τ) (halfM M 1) q (halfV 1 X)) :=
  (owns_rects (c : Thread nD τ) M q halfR (fun _ _ => rfl) half_disj half_cover X).trans (Entails.of_eq (bigSep_two _))

/-- An owned memref is three shares of it. -/
theorem split_three (c : Dev nD) (M : HM) (X : Vec F S256x128 .bf16) :
    (owns (c : Thread nD τ) M fullShare X : sProp 𝕄)
      ⊣⊢ iprop(owns (c : Thread nD τ) M fullShare.left X ∗ owns (c : Thread nD τ) M fullShare.right.left X ∗ owns (c : Thread nD τ) M fullShare.right.right X) := by
  constructor
  · iintro H
    ihave H := (owns_halves (c : Thread nD τ) M fullShare X).1 $$ H
    icases H with ⟨Hl, Hr⟩
    isplitl [Hl]; · iexact Hl
    iapply (owns_halves (c : Thread nD τ) M fullShare.right X).1; iexact Hr
  · iintro ⟨Hl, Hr⟩
    iapply (owns_halves (c : Thread nD τ) M fullShare X).2
    isplitl [Hl]; · iexact Hl
    iapply (owns_halves (c : Thread nD τ) M fullShare.right X).2; iexact Hr

/-- Two halves at some contents are the buffer at some contents. -/
theorem join_halves (c : Dev nD) (M : BM) :
    (iprop(anyH (F := F) c (halfM M 0) ∗ anyH c (halfM M 1)) : sProp 𝕄) ⊢ iprop(∃ X, owns (c : Thread nD τ) M fullShare X) := by
  have hany (h : Fin 2) : (anyH (F := F) c (halfM M h) : sProp 𝕄) ⊢ ownsSat (c : Thread nD τ) (halfM M h) fullShare (fun _ => True) :=
    (ownsSat_true (c : Thread nD τ) (halfM M h) fullShare).2
  refine ((BIClass.sep_mono (hany 0) (hany 1)).trans (Entails.of_eq (bigSep_two (F := F) (fun h => ownsSat (c : Thread nD τ) (halfM M h) fullShare fun _ => True)).symm)).trans
    ((ownsSat_of_rects (c : Thread nD τ) M fullShare halfR (fun _ _ => rfl) half_disj half_cover (Ψ := fun _ _ => True)).trans
      (ownsSat_any (c : Thread nD τ) M fullShare))

end Cert.KProof

end
-- ==== Proof.Out.lean ====
/-
# The output buffer, and the device and offset words

The eight stores of the output fill the eight blocks of it, two for each device. `Agrees` says which blocks are filled
already. The end of the module evaluates the printed device and offset words.
-/
module

public import proofs.«01_k».proof.Proof.Steps

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The blocks of the output -/

theorem outInb (d : Dev nD) (h : Fin 2) : ∀ a, (![256 * h.val, 128 * d.val] : Fin 2 → ℕ) a + S256x128.size a ≤ S512x512.size a := by
  revert d h; decide

/-- The block of the output of device `d`'s columns and half `h` of the rows. -/
abbrev outR (d : Dev nD) (h : Fin 2) : Rect S512x512 := Rect.unit (s := S512x512) ![256 * h.val, 128 * d.val] S256x128.size (outInb d h)

/-- What device `c` puts there: its own finished half, or the rounded half that came, widened. -/
def outPiece (c d : Dev nD) (h : Fin 2) : Vec F S256x128 .f32 := if d = c then mineX m c h else k0_pay1 (agX m d h)

/-- The index of the block that holds a place of the output, and the place in the block. -/
def blkD (i : S512x512.Idx) : Dev nD := ⟨(i 1).val / 128, by have : (i 1).val < 512 := (i 1).isLt; show _ < 4; omega⟩
def blkH (i : S512x512.Idx) : Fin 2 := ⟨(i 0).val / 256, by have : (i 0).val < 512 := (i 0).isLt; omega⟩
def inBlk (i : S512x512.Idx) : S256x128.Idx := fun
  | ⟨0, _⟩ => ⟨(i 0).val % 256, Nat.mod_lt _ (by decide)⟩
  | ⟨1, _⟩ => ⟨(i 1).val % 128, Nat.mod_lt _ (by decide)⟩

/-- The output of device `c`. -/
def outAt (c : Dev nD) : S512x512.Idx → Elt F .f32 := fun i => outPiece m c (blkD i) (blkH i) (inBlk i)

theorem outR_inBlk (i : S512x512.Idx) : (outR (blkD i) (blkH i)).emb (inBlk i) = i := by
  funext a
  refine Fin.ext ?_
  match a with
  | ⟨0, _⟩ => show 256 * ((i 0).val / 256) + 1 * ((i 0).val % 256) = (i 0).val; omega
  | ⟨1, _⟩ => show 128 * ((i 1).val / 128) + 1 * ((i 1).val % 128) = (i 1).val; omega

theorem outR_emb_inj {d d' : Dev nD} {h h' : Fin 2} {i i' : S256x128.Idx} (e : (outR d h).emb i = (outR d' h').emb i') : d = d' ∧ h = h' := by
  have e0 : 256 * h.val + 1 * (i 0).val = 256 * h'.val + 1 * (i' 0).val := congrArg (fun y : S512x512.Idx => (y 0).val) e
  have e1 : 128 * d.val + 1 * (i 1).val = 128 * d'.val + 1 * (i' 1).val := congrArg (fun y : S512x512.Idx => (y 1).val) e
  have a0 : (i 0).val < 256 := (i 0).isLt
  have a1 : (i 1).val < 128 := (i 1).isLt
  have b0 : (i' 0).val < 256 := (i' 0).isLt
  have b1 : (i' 1).val < 128 := (i' 1).isLt
  exact ⟨Fin.ext (by omega), Fin.ext (by omega)⟩

/-- The blocks in `S` are filled. -/
def Agrees (c : Dev nD) (S : Finset (Dev nD × Fin 2)) (X : S512x512.Idx → Elt F .f32) : Prop :=
  ∀ d h, (d, h) ∈ S → ∀ i, X ((outR d h).emb i) = outPiece m c d h i

theorem agrees_upd {c : Dev nD} {S : Finset (Dev nD × Fin 2)} {X : S512x512.Idx → Elt F .f32} (H : Agrees m c S X) (d : Dev nD) (h : Fin 2) :
    Agrees m c (insert (d, h) S) (upd (outR d h) (outPiece m c d h) X) := by
  intro d' h' hm i
  by_cases he : (d', h') = (d, h)
  · obtain ⟨rfl, rfl⟩ := Prod.mk.inj he
    exact upd_emb (outR d' h') (outPiece m c d' h') X i
  · have hne : ¬ ∃ i', (outR d h).emb i' = (outR d' h').emb i := fun ⟨i', e⟩ => he (by
      obtain ⟨rfl, rfl⟩ := outR_emb_inj e; rfl)
    rw [upd_off _ _ _ hne]
    exact H d' h' ((Finset.mem_insert.mp hm).resolve_left he) i

theorem agrees_univ {c : Dev nD} {X : S512x512.Idx → Elt F .f32} (H : Agrees m c Finset.univ X) : X = outAt m c := by
  funext i
  have := H (blkD i) (blkH i) (Finset.mem_univ _) (inBlk i)
  rw [outR_inBlk] at this
  exact this

abbrev oM : Memref sig .tc .vmem S512x512 .f32 := Memref.whole cc0_stg2_0

/-- Device `c` owns its output buffer, with the blocks in `S` filled. -/
def outS (c : Dev nD) (S : Finset (Dev nD × Fin 2)) : sProp 𝕄 := iprop(∃ X, ⌜Agrees m c S X⌝ ∗ owns (c : Thread nD τ) oM fullShare X)

/-- A load of the output buffer, whatever it reads. -/
theorem step_load_out (c : Dev nD) (S : Finset (Dev nD × Fin 2)) (r : Rect S512x512) {hl : oM.view.LoadsAt r.toLoadRect}
    {α : Type} {Q : α → sProp 𝕄} {k : (r.shape.Idx → Elt F .f32) → Prog (TpuEff nD τ sig (Elt F) Λ₀ .tc) α} :
    outS m c S ⊢ iprop((∀ v, outS m c S -∗ wp frame (wpE (defs₀ (F := F)) 𝒱₀ (c : Thread nD τ) none) Set.univ (k v) Q)
          -∗ wp frame (wpE (defs₀ (F := F)) 𝒱₀ (c : Thread nD τ) none) Set.univ (.op (.load oM r.toLoadRect hl) k) Q) := by
  unfold outS
  iintro ⟨%X, %hX, H⟩ Hk
  iapply (step_load c oM r fullShare X) $$ H; iintro H
  iapply Hk $$ %_
  iexists X; isplitr; · ipureintro; exact hX
  iexact H

/-- A store of a block of the output fills it. -/
theorem step_store_out (c : Dev nD) (S : Finset (Dev nD × Fin 2)) (d : Dev nD) (h : Fin 2) {o : Fin 2 → ℕ} {hin : ∀ a, o a + S256x128.size a ≤ S512x512.size a}
    (ho : o = ![256 * h.val, 128 * d.val]) {w : Vec F S256x128 .f32} (hw : w = outPiece m c d h)
    {hx : (oM.access (Rect.unit (s := S512x512) o S256x128.size hin)).Stores Finset.univ}
    {hm : Finset.univ = Finset.univ ∨ ∀ a, (Rect.unit (s := S512x512) o S256x128.size hin).stride a = 1}
    {α : Type} {Q : α → sProp 𝕄} {k : PUnit → Prog (TpuEff nD τ sig (Elt F) Λ₀ .tc) α} :
    outS m c S ⊢ iprop((outS m c (insert (d, h) S) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S512x512) o S256x128.size hin) w Finset.univ hx hm) k) Q) := by
  subst ho hw
  unfold outS
  iintro ⟨%X, %hX, H⟩ Hk
  iapply (step_store c oM (outR d h) (outPiece m c d h) X) $$ H; iintro H
  iapply Hk
  iexists _; isplitr
  rotate_left
  · iexact H
  · ipureintro; exact agrees_upd m hX d h

theorem outPiece_mine (c : Dev nD) (h : Fin 2) : mineX m c h = outPiece m c c h := (if_pos rfl).symm
theorem outPiece_got (c : Dev nD) (r : Fin 3) (h : Fin 2) : k0_pay1 (agX m (par r c) h) = outPiece m c (par r c) h :=
  (if_neg (by revert r c; decide)).symm

/-- The eight blocks. -/
theorem all_blocks (c : Dev nD) : insert (par 2 c, (1 : Fin 2)) (insert (par 1 c, 1) (insert (par 0 c, 1) (insert (par 2 c, 0)
    (insert (par 1 c, 0) (insert (par 0 c, 0) (insert (c, 1) (insert (c, 0) ∅))))))) = (Finset.univ : Finset (Dev nD × Fin 2)) := by
  revert c; decide

/-! ## Device and offset words -/

section Words
variable (c : Dev nD)

theorem dev1_eq : (⟨k0_dev1 c, k0_dev1_lt c⟩ : Dev nD) = par 1 c := by revert c; decide +kernel
theorem dev2_eq : (⟨k0_dev2 c, k0_dev2_lt c⟩ : Dev nD) = par 2 c := by revert c; decide +kernel
theorem dev3_eq : (⟨k0_dev3 c, k0_dev3_lt c⟩ : Dev nD) = par 0 c := by revert c; decide +kernel
theorem dev4_eq : (⟨k0_dev4 c, k0_dev4_lt c⟩ : Dev nD) = par 0 c := by revert c; decide +kernel
theorem dev5_eq : (⟨k0_dev5 c, k0_dev5_lt c⟩ : Dev nD) = par 0 c := by revert c; decide +kernel
theorem dev6_eq : (⟨k0_dev6 c, k0_dev6_lt c⟩ : Dev nD) = par 1 c := by revert c; decide +kernel
theorem dev7_eq : (⟨k0_dev7 c, k0_dev7_lt c⟩ : Dev nD) = par 1 c := by revert c; decide +kernel
theorem dev8_eq : (⟨k0_dev8 c, k0_dev8_lt c⟩ : Dev nD) = par 2 c := by revert c; decide +kernel
theorem dev9_eq : (⟨k0_dev9 c, k0_dev9_lt c⟩ : Dev nD) = par 2 c := by revert c; decide +kernel
theorem dev10_eq : (⟨k0_dev10 c, k0_dev10_lt c⟩ : Dev nD) = par 0 c := by revert c; decide +kernel
theorem dev11_eq : (⟨k0_dev11 c, k0_dev11_lt c⟩ : Dev nD) = par 1 c := by revert c; decide +kernel
theorem dev12_eq : (⟨k0_dev12 c, k0_dev12_lt c⟩ : Dev nD) = par 2 c := by revert c; decide +kernel
theorem dev13_eq : (⟨k0_dev13 c, k0_dev13_lt c⟩ : Dev nD) = par 0 c := by revert c; decide +kernel
theorem dev14_eq : (⟨k0_dev14 c, k0_dev14_lt c⟩ : Dev nD) = par 1 c := by revert c; decide +kernel
theorem dev15_eq : (⟨k0_dev15 c, k0_dev15_lt c⟩ : Dev nD) = par 2 c := by revert c; decide +kernel

theorem off1_0 : k0_off1 c 2#32 = ![0, 128 * (par 0 c).val] := by revert c; decide +kernel
theorem off1_1 : k0_off1 c 1#32 = ![0, 128 * (par 1 c).val] := by revert c; decide +kernel
theorem off2_2 : k0_off2 c = ![0, 128 * (par 2 c).val] := by revert c; decide +kernel
theorem off3_c : k0_off3 c = ![0, 128 * c.val] := by revert c; decide +kernel
theorem off4_c : k0_off4 c = ![256 * (0 : Fin 2).val, 128 * c.val] := by revert c; decide +kernel
theorem off5_c : k0_off5 c = ![256 * (1 : Fin 2).val, 128 * c.val] := by revert c; decide +kernel
theorem off6_0 : k0_off6 c 2#32 = ![256 * (0 : Fin 2).val, 128 * (par 0 c).val] := by revert c; decide +kernel
theorem off6_1 : k0_off6 c 1#32 = ![256 * (0 : Fin 2).val, 128 * (par 1 c).val] := by revert c; decide +kernel
theorem off7_2 : k0_off7 c = ![256 * (0 : Fin 2).val, 128 * (par 2 c).val] := by revert c; decide +kernel
theorem off8_0 : k0_off8 c 2#32 = ![256 * (1 : Fin 2).val, 128 * (par 0 c).val] := by revert c; decide +kernel
theorem off8_1 : k0_off8 c 1#32 = ![256 * (1 : Fin 2).val, 128 * (par 1 c).val] := by revert c; decide +kernel
theorem off9_2 : k0_off9 c = ![256 * (1 : Fin 2).val, 128 * (par 2 c).val] := by revert c; decide +kernel

/-- The columns loaded are those of the device that the offset names. -/
theorem colB_eq (d : Dev nD) {o : Fin 2 → ℕ} (ho : o = ![0, 128 * d.val]) (hin : ∀ a, o a + S256x128.size a ≤ S256x512.size a) :
    (fun i => k0_pay3 (bIn m c) ((Rect.unit (s := S256x512) o S256x128.size hin).emb i)) = colB m c d := by
  subst ho; rfl

end Words

end Cert.KProof

end
-- ==== Proof.Block.lean ====
/-
# What one block computes, at the exact values

Read at the extended reals, the format changes are the identity, and the contraction is a plain sum. So a partial product
of a device, at a row and a column, is the sum over the 256 inner positions that the device holds.
-/
module

public import proofs.«01_k».proof.Proof.Out
public import Idealize.ShloMosaic.PureOps.Ideal
public import Idealize.ShloMosaic.Lib.MatmulPlain
public import Idealize.ShloMosaic.Lib.ValueIdx
public import Idealize.ShloMosaic.Lib.Pipeline.Value

@[expose] public section

set_option maxRecDepth 16384

noncomputable section

namespace Cert.KProof

open Cert.KernelIdeal Cert.KernelIdeal.Gen

open Idealize.ShloMosaic Idealize.ShloMosaic.TcCoe Idealize.ShloMosaic.ValueIdx
open scoped BigOperators

/-! ## The printed computations at a row and a column -/

/-- The rounding of the first argument changes nothing. -/
theorem round_a (a : Vec Ideal S512x256 .f32) : k0_pay2 (F := Ideal) a = a := by
  unfold k0_pay2
  exact shapeCast_self a _

/-- The rounding of the second argument changes nothing. -/
theorem round_b (b : Vec Ideal S256x512 .f32) : k0_pay3 (F := Ideal) b = b := by
  unfold k0_pay3
  exact (shapeCast_self _ _).trans (shapeCast_self b _)

/-- The partial product, at row `i` and column `j`, is the sum over the inner position. -/
theorem product_apply (a : Vec Ideal S512x256 .bf16) (b : Vec Ideal S256x128 .bf16) (i : Fin 512) (j : Fin 128) :
    k0_pay7 (F := Ideal) a b (ix2 i j) = ∑ k : Fin 256, a (ix2 i k) * b (ix2 k j) := by
  refine (Ideal.matmul_plain_apply (M := 512) (K := 256) (N := 128) none a b (constant S512x128 .f32 0x00000000#32) i j).trans ?_
  show Ideal.ofBits .f32 0x00000000#32 + _ = _
  rw [Ideal.ofBits_zero_f32, zero_add]

/-- The partial product that is sent is the same one. -/
theorem sent_eq (a : Vec Ideal S512x256 .f32) (b : Vec Ideal S256x128 .bf16) : k0_pay4 (F := Ideal) a b = k0_pay7 (F := Ideal) a b := by
  unfold k0_pay4
  refine (shapeCast_self _ _).trans ?_
  rw [round_a]; rfl

/-- The row of the output that place `i` of half `h` is. -/
def row (h : Fin 2) (i : Fin 256) : Fin 512 := ⟨256 * h.val + i.val, by have := h.isLt; have := i.isLt; omega⟩
/-- The column of the output that place `j` of device `d`'s column block is. -/
def col (d : Dev nD) (j : Fin 128) : Fin 512 := ⟨128 * d.val + j.val, by have : d.val < 4 := d.isLt; have := j.isLt; omega⟩

theorem halfR_ix2 (h : Fin 2) (i : Fin 256) (j : Fin 128) : (halfR h).emb (ix2 i j) = (ix2 (row h i) j : S512x128.Idx) := by
  funext a
  refine Fin.ext ?_
  match h, a with
  | ⟨0, _⟩, ⟨0, _⟩ => show 0 + 1 * i.val = 256 * 0 + i.val; omega
  | ⟨1, _⟩, ⟨0, _⟩ => show 256 + 1 * i.val = 256 * 1 + i.val; omega
  | ⟨0, _⟩, ⟨1, _⟩ => show 0 + 1 * j.val = j.val; omega
  | ⟨1, _⟩, ⟨1, _⟩ => show 0 + 1 * j.val = j.val; omega

theorem colR_ix2 (d : Dev nD) (k : Fin 256) (j : Fin 128) : (colR d).emb (ix2 k j) = (ix2 k (col d j) : S256x512.Idx) := by
  funext a
  refine Fin.ext ?_
  match a with
  | ⟨0, _⟩ => show 0 + 1 * k.val = k.val; omega
  | ⟨1, _⟩ => show 128 * d.val + 1 * j.val = 128 * d.val + j.val; omega

/-- The larger of a value and the printed zero. -/
theorem relu_apply (x : Vec Ideal S256x128 .f32) (i : S256x128.Idx) : k0_pay11 (F := Ideal) x k0_pay10 i = max (x i) 0 := by
  show max (x i) (Ideal.ofBits .f32 0x00000000#32) = _
  rw [Ideal.ofBits_zero_f32]

/-- The sum of the own half and the three that came, cut at zero: the first rows. -/
theorem first_rows_apply (p : Vec Ideal S512x256 .bf16) (b : Vec Ideal S256x128 .bf16) (x y z : Vec Ideal S256x128 .bf16) (i : Fin 256) (j : Fin 128) :
    k0_pay11 (F := Ideal) (k0_pay9 (k0_pay8 p b x) y z) k0_pay10 (ix2 i j)
      = max (k0_pay7 (F := Ideal) p b (ix2 (row 0 i) j) + x (ix2 i j) + y (ix2 i j) + z (ix2 i j)) 0 := by
  rw [relu_apply]
  refine congrArg (fun s : EReal => max (s + x (ix2 i j) + y (ix2 i j) + z (ix2 i j)) 0) ?_
  refine extractStridedSlice_apply _ _ _ _ _ fun a => ?_
  match a with
  | ⟨0, _⟩ => show 256 * 0 + i.val = 0 + i.val; omega
  | ⟨1, _⟩ => show j.val = 0 + j.val; omega

/-- The same: the last rows. -/
theorem last_rows_apply (p : Vec Ideal S512x256 .bf16) (b : Vec Ideal S256x128 .bf16) (x y z : Vec Ideal S256x128 .bf16) (i : Fin 256) (j : Fin 128) :
    k0_pay14 (F := Ideal) (k0_pay13 (k0_pay7 p b) x) y z (ix2 i j)
      = max (k0_pay7 (F := Ideal) p b (ix2 (row 1 i) j) + x (ix2 i j) + y (ix2 i j) + z (ix2 i j)) 0 := by
  refine (congrArg (fun s : EReal => max _ s) Ideal.ofBits_zero_f32).trans ?_
  refine congrArg (fun s : EReal => max (s + x (ix2 i j) + y (ix2 i j) + z (ix2 i j)) 0) ?_
  refine extractStridedSlice_apply _ _ _ _ _ fun a => ?_
  match a with
  | ⟨0, _⟩ => show 256 * 1 + i.val = 256 + i.val; omega
  | ⟨1, _⟩ => show j.val = 0 + j.val; omega

end Cert.KProof

end
-- ==== Proof.Body.lean ====
/-
# The run of the kernel's body

The kernel's body on any device `c`, from what it holds at its start to what it holds at its end. The device stays a
variable throughout: each step is one lemma of the module `Steps` or `Out`, at the copy's number.
-/
module

public import proofs.«01_k».proof.Proof.Out

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A buffer, whole, at some contents. -/
def anyB (c : Dev nD) {s : Shape} {e : EltTy} (M : Memref sig .tc .vmem s e) : sProp 𝕄 := iprop(∃ X, owns (c : Thread nD τ) M fullShare X)

abbrev aM : Memref sig .tc .vmem S512x256 .f32 := Memref.whole cc0_stg0_0
abbrev bM : Memref sig .tc .vmem S256x512 .f32 := Memref.whole cc0_stg1_0
abbrev bbM : Memref sig .tc .vmem S256x512 .bf16 := Memref.whole cc0_scratch0

/-- The twelve copies of a device at one stage. -/
def allJ (Φ : Fin 12 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11)

/-- What a device holds when the body starts. -/
def bodyPre (K : Dev nD × CellIx → ℕ) (c : Dev nD) : sProp 𝕄 :=
  iprop(recs m K ∗ levAts L lv
    ∗ (atPos ER (barCell c) 0 (∅ : Finset (Fin 3)) 0 ∗ cred (tallyAt (barCell c) () 3))
    ∗ (dutyTok ER (barCell (par 0 c)) 0 (0 : Fin 3) ∗ dutyTok ER (barCell (par 1 c)) 0 (1 : Fin 3) ∗ dutyTok ER (barCell (par 2 c)) 0 (2 : Fin 3))
    ∗ allJ (j0 c)
    ∗ (lend c 0 ∗ lend c 1 ∗ lend c 2)
    ∗ (anyB c bbM ∗ anyB c (sbM 0) ∗ anyB c (sbM 1) ∗ anyB c (sbM 2) ∗ anyH c (halfM agM 0) ∗ anyH c (halfM agM 1))
    ∗ ow c (O₀ c)
    ∗ owns (c : Thread nD τ) aM fullShare (aIn m c) ∗ owns (c : Thread nD τ) bM fullShare (bIn m c) ∗ anyB c oM)

/-- What it holds when the body is done. -/
def bodyPost (c : Dev nD) : sProp 𝕄 :=
  iprop(semVal (barCell c) 0
    ∗ allJ (j3 c)
    ∗ (lend c 0 ∗ lend c 1 ∗ lend c 2)
    ∗ (anyB c bbM ∗ (anyH c (halfM (sbM 0) 0) ∗ anyH c (halfM (sbM 0) 1)) ∗ (anyH c (halfM (sbM 1) 0) ∗ anyH c (halfM (sbM 1) 1))
      ∗ (anyH c (halfM (sbM 2) 0) ∗ anyH c (halfM (sbM 2) 1)) ∗ anyH c (halfM agM 0) ∗ anyH c (halfM agM 1))
    ∗ ow c 0
    ∗ owns (c : Thread nD τ) aM fullShare (aIn m c) ∗ owns (c : Thread nD τ) bM fullShare (bIn m c) ∗ owns (c : Thread nD τ) oM fullShare (outAt m c))

theorem anyH_intro (c : Dev nD) (M : HM) (X : Vec F S256x128 .bf16) : (owns (c : Thread nD τ) M fullShare X : sProp 𝕄) ⊢ anyH c M := by
  unfold anyH; iintro H; iexists X; iexact H

/-- A memref owned as copy `j`'s source. -/
theorem as_src (c : Dev nD) (j : Fin 12) (M : HM) (q : PosShare TreeShare) (X : Vec F S256x128 .bf16) (hM : srcH j = M) (hq : shr j = q) (hX : sentX m c j = X) :
    (owns (c : Thread nD τ) M q X : sProp 𝕄) ⊢ owns (c : Thread nD τ) (srcH j) (shr j) (sentX m c j) := by rw [hM, hq, hX]

/-- The same read back. -/
theorem of_src (c : Dev nD) (j : Fin 12) (M : HM) (q : PosShare TreeShare) (X : Vec F S256x128 .bf16) (hM : srcH j = M) (hq : shr j = q) (hX : sentX m c j = X) :
    (owns (c : Thread nD τ) (srcH j) (shr j) (sentX m c j) : sProp 𝕄) ⊢ owns (c : Thread nD τ) M q X := by rw [hM, hq, hX]

/-- What a partner lends, buffer by buffer. -/
theorem lend_open (c : Dev nD) (r : Fin 3) (j₀ j₁ j₂ j₃ : Fin 12) (h : along r = ![j₀, j₁, j₂, j₃]) (h₀ : rel j₀ = r) (h₁ : rel j₁ = r) (h₂ : rel j₂ = r) (h₃ : rel j₃ = r) :
    (lend (par r c) r : sProp 𝕄) ⊢ iprop(anyH (par (rel j₀) c) (dstH j₀) ∗ anyH (par (rel j₁) c) (dstH j₁) ∗ anyH (par (rel j₂) c) (dstH j₂) ∗ anyH (par (rel j₃) c) (dstH j₃)) := by
  unfold lend; rw [h₀, h₁, h₂, h₃, h]; exact .rfl

/-- The buffers a device lends, given back. -/
theorem lend_close (c : Dev nD) (r : Fin 3) (j₀ j₁ j₂ j₃ : Fin 12) (h : along r = ![j₀, j₁, j₂, j₃]) (X₀ X₁ X₂ X₃ : Vec F S256x128 .bf16) :
    (iprop(owns (c : Thread nD τ) (dstH j₀) fullShare X₀ ∗ owns (c : Thread nD τ) (dstH j₁) fullShare X₁ ∗ owns (c : Thread nD τ) (dstH j₂) fullShare X₂
      ∗ owns (c : Thread nD τ) (dstH j₃) fullShare X₃) : sProp 𝕄) ⊢ lend c r := by
  unfold lend; rw [h]
  exact BIClass.sep_mono (anyH_intro c _ X₀) (BIClass.sep_mono (anyH_intro c _ X₁) (BIClass.sep_mono (anyH_intro c _ X₂) (anyH_intro c _ X₃)))

/-- The two halves of a partial product, back from their copies. -/
theorem partial_back (c : Dev nD) (r : Fin 3) (j₀ j₁ : Fin 12) (h₀ : srcH j₀ = halfM (sbM r) 0) (h₁ : srcH j₁ = halfM (sbM r) 1)
    (q₀ : shr j₀ = fullShare) (q₁ : shr j₁ = fullShare) :
    (iprop(owns (c : Thread nD τ) (srcH j₀) (shr j₀) (sentX m c j₀) ∗ owns (c : Thread nD τ) (srcH j₁) (shr j₁) (sentX m c j₁)) : sProp 𝕄)
      ⊢ iprop(anyH c (halfM (sbM r) 0) ∗ anyH c (halfM (sbM r) 1)) :=
  BIClass.sep_mono ((of_src m c j₀ _ _ _ h₀ q₀ rfl).trans (anyH_intro c _ _)) ((of_src m c j₁ _ _ _ h₁ q₁ rfl).trans (anyH_intro c _ _))

/-- A finished half, back from its three copies. -/
theorem finished_back (c : Dev nD) (h : Fin 2) (j₀ j₁ j₂ : Fin 12) (h₀ : srcH j₀ = halfM agM h) (h₁ : srcH j₁ = halfM agM h) (h₂ : srcH j₂ = halfM agM h)
    (q₀ : shr j₀ = fullShare.left) (q₁ : shr j₁ = fullShare.right.left) (q₂ : shr j₂ = fullShare.right.right)
    (x₀ : sentX m c j₀ = agX m c h) (x₁ : sentX m c j₁ = agX m c h) (x₂ : sentX m c j₂ = agX m c h) :
    (iprop(owns (c : Thread nD τ) (srcH j₀) (shr j₀) (sentX m c j₀) ∗ owns (c : Thread nD τ) (srcH j₁) (shr j₁) (sentX m c j₁)
      ∗ owns (c : Thread nD τ) (srcH j₂) (shr j₂) (sentX m c j₂)) : sProp 𝕄) ⊢ anyH c (halfM agM h) :=
  ((BIClass.sep_mono (of_src m c j₀ _ _ _ h₀ q₀ x₀) (BIClass.sep_mono (of_src m c j₁ _ _ _ h₁ q₁ x₁) (of_src m c j₂ _ _ _ h₂ q₂ x₂))).trans
    (split_three c (halfM agM h) (agX m c h)).2).trans (anyH_intro c _ _)

/-- Nothing of the result is known when the body starts. -/
theorem out_none (c : Dev nD) (X : S512x512.Idx → Elt F .f32) : (owns (c : Thread nD τ) oM fullShare X : sProp 𝕄) ⊢ outS m c ∅ := by
  unfold outS; iintro H; iexists X; isplitr
  · ipureintro; intro d h hm; exact absurd hm (Finset.notMem_empty _)
  iexact H

/-- When all eight blocks are stored, the result is known everywhere. -/
theorem out_all (c : Dev nD) : outS m c Finset.univ ⊢ (owns (c : Thread nD τ) oM fullShare (outAt m c) : sProp 𝕄) := by
  unfold outS; iintro ⟨%X, %h, H⟩
  rw [← agrees_univ m h]; iexact H

set_option maxHeartbeats 4000000 in
theorem run_body (K : Dev nD × CellIx → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body aM (Memref.isWhole_whole _) bM (Memref.isWhole_whole _) oM (Memref.isWhole_whole _) bbM (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            (Memref.whole cc0_scratch9) (Memref.isWhole_whole _) (Memref.whole cc0_scratch10) (Memref.isWhole_whole _)
            cc0_scratch11 cc0_scratch12) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre allJ anyB anyH O₀
  iintro ⟨⟨#HR, #Hlev, ⟨HatB, HcB⟩, ⟨Ht0, Ht1, Ht2⟩, ⟨J0, J1, J2, J3, J4, J5, J6, J7, J8, J9, J10, J11⟩, ⟨L0, L1, L2⟩,
    ⟨⟨%b0, Hbb⟩, ⟨%s0, S0⟩, ⟨%s1, S1⟩, ⟨%s2, S2⟩, ⟨%g0, G0⟩, ⟨%g1, G1⟩⟩, HO, Ha, Hb, ⟨%o0, Hout⟩⟩, Hk⟩
  ihave Hout := (out_none m c o0) $$ Hout
  -- the barrier, the arguments, and the partial products' departure
  iapply (step_signal m K c _ 1 (dev1_eq c) ((tal c order + tallyAt (barCell (par 0 c)) () 1) + tallyAt (barCell (par 2 c)) () 1)) $$ HR Ht1 L1 HO; iintro HO
  iapply (step_signal m K c _ 2 (dev2_eq c) (tal c order + tallyAt (barCell (par 0 c)) () 1)) $$ HR Ht2 L2 HO; iintro HO
  iapply (step_signal m K c _ 0 (dev3_eq c) (tal c order)) $$ HR Ht0 L0 HO; iintro HO
  iapply (step_load c aM (Rect.unit (s := S512x256) ![0, 0] S512x256.size inb_S512x256_S512x256_0_0) fullShare (aIn m c)) $$ Ha; iintro Ha
  rw [load_full (s := S512x256) (aIn m c) hz]
  iapply (step_load c bM (Rect.unit (s := S256x512) ![0, 0] S256x512.size inb_S256x512_S256x512_0_0) fullShare (bIn m c)) $$ Hb; iintro Hb
  rw [load_full (s := S256x512) (bIn m c) hz]
  iapply (step_load c bbM (Rect.unit (s := S256x512) ![0, 0] S256x512.size inb_S256x512_S256x512_0_0) fullShare b0) $$ Hbb; iintro Hbb
  iapply (step_store c bbM (Rect.unit (s := S256x512) ![0, 0] S256x512.size inb_S256x512_S256x512_0_0) (k0_pay3 (bIn m c)) b0) $$ Hbb; iintro Hbb
  rw [upd_full hz]
  iapply (step_load c bbM (Rect.unit (s := S256x512) (k0_off1 c 2#32) S256x128.size (k0_off1_inb c 1)) fullShare (k0_pay3 (bIn m c))) $$ Hbb; iintro Hbb
  rw [colB_eq m c (par 0 c) (off1_0 c)]
  iapply (step_load c (sbM 0) (Rect.unit (s := S512x128) ![0, 0] S512x128.size inb_S512x128_S512x128_0_0) fullShare s0) $$ S0; iintro S0
  iapply (step_store c (sbM 0) (Rect.unit (s := S512x128) ![0, 0] S512x128.size inb_S512x128_S512x128_0_0) (sendX m c 0) s0) $$ S0; iintro S0
  rw [upd_full hz]
  iapply (step_barrier m K c) $$ HR Hlev HcB HatB HO
  iintro ⟨HO, HzB, L0, L1, L2⟩
  ihave L0 := (lend_open c 0 0 1 6 7 rfl rfl rfl rfl rfl) $$ L0; icases L0 with ⟨D0, D1, D6, D7⟩
  ihave L1 := (lend_open c 1 2 3 8 9 rfl rfl rfl rfl rfl) $$ L1; icases L1 with ⟨D2, D3, D8, D9⟩
  ihave L2 := (lend_open c 2 4 5 10 11 rfl rfl rfl rfl rfl) $$ L2; icases L2 with ⟨D4, D5, D10, D11⟩
  ihave S0 := (split_halves c (sbM 0) fullShare (sendX m c 0)) $$ S0
  icases S0 with ⟨P0, P1⟩
  ihave P0 := (as_src m c 0 (halfM (sbM 0) 0) fullShare (halfV 0 (sendX m c 0)) rfl rfl rfl) $$ P0
  iapply (step_copy m K c _ 0 [1, 2, 3, 4, 5, 6, 8, 10, 7, 9, 11] rfl rfl rfl rfl (dev4_eq c)) $$ HR J0 P0 D0 HO; iintro ⟨J0, HO⟩
  ihave P1 := (as_src m c 1 (halfM (sbM 0) 1) fullShare (halfV 1 (sendX m c 0)) rfl rfl rfl) $$ P1
  iapply (step_copy m K c _ 1 [2, 3, 4, 5, 6, 8, 10, 7, 9, 11] rfl rfl rfl rfl (dev5_eq c)) $$ HR J1 P1 D1 HO; iintro ⟨J1, HO⟩
  iapply (step_load c bbM (Rect.unit (s := S256x512) (k0_off1 c 1#32) S256x128.size (k0_off1_inb c 0)) fullShare (k0_pay3 (bIn m c))) $$ Hbb; iintro Hbb
  rw [colB_eq m c (par 1 c) (off1_1 c)]
  iapply (step_load c (sbM 1) (Rect.unit (s := S512x128) ![0, 0] S512x128.size inb_S512x128_S512x128_0_0) fullShare s1) $$ S1; iintro S1
  iapply (step_store c (sbM 1) (Rect.unit (s := S512x128) ![0, 0] S512x128.size inb_S512x128_S512x128_0_0) (sendX m c 1) s1) $$ S1; iintro S1
  rw [upd_full hz]
  ihave S1 := (split_halves c (sbM 1) fullShare (sendX m c 1)) $$ S1
  icases S1 with ⟨P2, P3⟩
  ihave P2 := (as_src m c 2 (halfM (sbM 1) 0) fullShare (halfV 0 (sendX m c 1)) rfl rfl rfl) $$ P2
  iapply (step_copy m K c _ 2 [3, 4, 5, 6, 8, 10, 7, 9, 11] rfl rfl rfl rfl (dev6_eq c)) $$ HR J2 P2 D2 HO; iintro ⟨J2, HO⟩
  ihave P3 := (as_src m c 3 (halfM (sbM 1) 1) fullShare (halfV 1 (sendX m c 1)) rfl rfl rfl) $$ P3
  iapply (step_copy m K c _ 3 [4, 5, 6, 8, 10, 7, 9, 11] rfl rfl rfl rfl (dev7_eq c)) $$ HR J3 P3 D3 HO; iintro ⟨J3, HO⟩
  iapply (step_load c bbM (Rect.unit (s := S256x512) (k0_off2 c) S256x128.size (k0_off2_inb c)) fullShare (k0_pay3 (bIn m c))) $$ Hbb; iintro Hbb
  rw [colB_eq m c (par 2 c) (off2_2 c)]
  iapply (step_load c (sbM 2) (Rect.unit (s := S512x128) ![0, 0] S512x128.size inb_S512x128_S512x128_0_0) fullShare s2) $$ S2; iintro S2
  iapply (step_store c (sbM 2) (Rect.unit (s := S512x128) ![0, 0] S512x128.size inb_S512x128_S512x128_0_0) (sendX m c 2) s2) $$ S2; iintro S2
  rw [upd_full hz]
  ihave S2 := (split_halves c (sbM 2) fullShare (sendX m c 2)) $$ S2
  icases S2 with ⟨P4, P5⟩
  ihave P4 := (as_src m c 4 (halfM (sbM 2) 0) fullShare (halfV 0 (sendX m c 2)) rfl rfl rfl) $$ P4
  iapply (step_copy m K c _ 4 [5, 6, 8, 10, 7, 9, 11] rfl rfl rfl rfl (dev8_eq c)) $$ HR J4 P4 D4 HO; iintro ⟨J4, HO⟩
  ihave P5 := (as_src m c 5 (halfM (sbM 2) 1) fullShare (halfV 1 (sendX m c 2)) rfl rfl rfl) $$ P5
  iapply (step_copy m K c _ 5 [6, 8, 10, 7, 9, 11] rfl rfl rfl rfl (dev9_eq c)) $$ HR J5 P5 D5 HO; iintro ⟨J5, HO⟩
  iapply (step_load c bbM (Rect.unit (s := S256x512) (k0_off3 c) S256x128.size (k0_off3_inb c)) fullShare (k0_pay3 (bIn m c))) $$ Hbb; iintro Hbb
  rw [colB_eq m c (c) (off3_c c)]
  -- the upper halves of the partners' partial products; the finished upper half's departure
  iapply (step_left m K c 0 [6, 8, 10, 7, 9, 11] rfl rfl) $$ HR Hlev J0 HO; iintro ⟨J0, P0, HO⟩
  iapply (step_came m K c 0 [6, 8, 10, 7, 9, 11] rfl rfl (by decide)) $$ HR Hlev J0 HO; iintro ⟨J0, E0, HO⟩
  iapply (step_load_half c (dstH 0) (rM 0) rfl fullShare (sentX m (par (rel 0) c) 0)) $$ E0; iintro E0
  iapply (step_left m K c 2 [6, 8, 10, 7, 9, 11] rfl rfl) $$ HR Hlev J2 HO; iintro ⟨J2, P2, HO⟩
  iapply (step_came m K c 2 [6, 8, 10, 7, 9, 11] rfl rfl (by decide)) $$ HR Hlev J2 HO; iintro ⟨J2, E2, HO⟩
  iapply (step_load_half c (dstH 2) (rM 1) rfl fullShare (sentX m (par (rel 2) c) 2)) $$ E2; iintro E2
  iapply (step_left m K c 4 [6, 8, 10, 7, 9, 11] rfl rfl) $$ HR Hlev J4 HO; iintro ⟨J4, P4, HO⟩
  iapply (step_came m K c 4 [6, 8, 10, 7, 9, 11] rfl rfl (by decide)) $$ HR Hlev J4 HO; iintro ⟨J4, E4, HO⟩
  iapply (step_load_half c (dstH 4) (rM 2) rfl fullShare (sentX m (par (rel 4) c) 4)) $$ E4; iintro E4
  iapply (step_load_half c (halfM agM 0) agM rfl fullShare g0) $$ G0; iintro G0
  iapply (step_store_half c (halfM agM 0) agM rfl (agX m c 0) g0) $$ G0; iintro G0
  ihave G0 := (split_three c (halfM agM 0) (agX m c 0)).1 $$ G0
  icases G0 with ⟨P6, P8, P10⟩
  ihave P6 := (as_src m c 6 (halfM agM 0) fullShare.left (agX m c 0) rfl rfl rfl) $$ P6
  iapply (step_copy m K c _ 6 [8, 10, 7, 9, 11] rfl rfl rfl rfl (dev10_eq c)) $$ HR J6 P6 D6 HO; iintro ⟨J6, HO⟩
  ihave P8 := (as_src m c 8 (halfM agM 0) fullShare.right.left (agX m c 0) rfl rfl rfl) $$ P8
  iapply (step_copy m K c _ 8 [10, 7, 9, 11] rfl rfl rfl rfl (dev11_eq c)) $$ HR J8 P8 D8 HO; iintro ⟨J8, HO⟩
  ihave P10 := (as_src m c 10 (halfM agM 0) fullShare.right.right (agX m c 0) rfl rfl rfl) $$ P10
  iapply (step_copy m K c _ 10 [7, 9, 11] rfl rfl rfl rfl (dev12_eq c)) $$ HR J10 P10 D10 HO; iintro ⟨J10, HO⟩
  iapply (step_load_out m c (∅) (Rect.unit (s := S512x512) (k0_off4 c) S256x128.size (k0_off4_inb c))) $$ Hout; iintro %_ Hout
  iapply (step_store_out m c (∅) (c) 0 (off4_c c) (outPiece_mine m c 0)) $$ Hout; iintro Hout
  -- the same for the lower halves
  iapply (step_left m K c 1 [7, 9, 11] rfl rfl) $$ HR Hlev J1 HO; iintro ⟨J1, P1, HO⟩
  iapply (step_came m K c 1 [7, 9, 11] rfl rfl (by decide)) $$ HR Hlev J1 HO; iintro ⟨J1, E1, HO⟩
  iapply (step_load_half c (dstH 1) (rM 0) rfl fullShare (sentX m (par (rel 1) c) 1)) $$ E1; iintro E1
  iapply (step_left m K c 3 [7, 9, 11] rfl rfl) $$ HR Hlev J3 HO; iintro ⟨J3, P3, HO⟩
  iapply (step_came m K c 3 [7, 9, 11] rfl rfl (by decide)) $$ HR Hlev J3 HO; iintro ⟨J3, E3, HO⟩
  iapply (step_load_half c (dstH 3) (rM 1) rfl fullShare (sentX m (par (rel 3) c) 3)) $$ E3; iintro E3
  iapply (step_left m K c 5 [7, 9, 11] rfl rfl) $$ HR Hlev J5 HO; iintro ⟨J5, P5, HO⟩
  iapply (step_came m K c 5 [7, 9, 11] rfl rfl (by decide)) $$ HR Hlev J5 HO; iintro ⟨J5, E5, HO⟩
  iapply (step_load_half c (dstH 5) (rM 2) rfl fullShare (sentX m (par (rel 5) c) 5)) $$ E5; iintro E5
  iapply (step_load_half c (halfM agM 1) agM rfl fullShare g1) $$ G1; iintro G1
  iapply (step_store_half c (halfM agM 1) agM rfl (agX m c 1) g1) $$ G1; iintro G1
  ihave G1 := (split_three c (halfM agM 1) (agX m c 1)).1 $$ G1
  icases G1 with ⟨P7, P9, P11⟩
  ihave P7 := (as_src m c 7 (halfM agM 1) fullShare.left (agX m c 1) rfl rfl rfl) $$ P7
  iapply (step_copy m K c _ 7 [9, 11] rfl rfl rfl rfl (dev13_eq c)) $$ HR J7 P7 D7 HO; iintro ⟨J7, HO⟩
  ihave P9 := (as_src m c 9 (halfM agM 1) fullShare.right.left (agX m c 1) rfl rfl rfl) $$ P9
  iapply (step_copy m K c _ 9 [11] rfl rfl rfl rfl (dev14_eq c)) $$ HR J9 P9 D9 HO; iintro ⟨J9, HO⟩
  ihave P11 := (as_src m c 11 (halfM agM 1) fullShare.right.right (agX m c 1) rfl rfl rfl) $$ P11
  iapply (step_copy m K c _ 11 [] rfl rfl rfl rfl (dev15_eq c)) $$ HR J11 P11 D11 HO; iintro ⟨J11, HO⟩
  iapply (step_load_out m c (insert (c, 0) ∅) (Rect.unit (s := S512x512) (k0_off5 c) S256x128.size (k0_off5_inb c))) $$ Hout; iintro %_ Hout
  iapply (step_store_out m c (insert (c, 0) ∅) (c) 1 (off5_c c) (outPiece_mine m c 1)) $$ Hout; iintro Hout
  -- the partners' finished blocks
  iapply (step_left m K c 6 [] rfl rfl) $$ HR Hlev J6 HO; iintro ⟨J6, P6, HO⟩
  iapply (step_came m K c 6 [] rfl rfl (by decide)) $$ HR Hlev J6 HO; iintro ⟨J6, E6, HO⟩
  iapply (step_load_half c (dstH 6) (gM 0) rfl fullShare (sentX m (par (rel 6) c) 6)) $$ E6; iintro E6
  iapply (step_load_out m c (insert (c, 1) (insert (c, 0) ∅)) (Rect.unit (s := S512x512) (k0_off6 c 2#32) S256x128.size (k0_off6_inb c 1))) $$ Hout; iintro %_ Hout
  iapply (step_store_out m c (insert (c, 1) (insert (c, 0) ∅)) (par 0 c) 0 (off6_0 c) (outPiece_got m c 0 0)) $$ Hout; iintro Hout
  iapply (step_left m K c 8 [] rfl rfl) $$ HR Hlev J8 HO; iintro ⟨J8, P8, HO⟩
  iapply (step_came m K c 8 [] rfl rfl (by decide)) $$ HR Hlev J8 HO; iintro ⟨J8, E8, HO⟩
  iapply (step_load_half c (dstH 8) (gM 1) rfl fullShare (sentX m (par (rel 8) c) 8)) $$ E8; iintro E8
  iapply (step_load_out m c (insert (par 0 c, 0) (insert (c, 1) (insert (c, 0) ∅))) (Rect.unit (s := S512x512) (k0_off6 c 1#32) S256x128.size (k0_off6_inb c 0))) $$ Hout; iintro %_ Hout
  iapply (step_store_out m c (insert (par 0 c, 0) (insert (c, 1) (insert (c, 0) ∅))) (par 1 c) 0 (off6_1 c) (outPiece_got m c 1 0)) $$ Hout; iintro Hout
  iapply (step_left m K c 10 [] rfl rfl) $$ HR Hlev J10 HO; iintro ⟨J10, P10, HO⟩
  iapply (step_came m K c 10 [] rfl rfl (by decide)) $$ HR Hlev J10 HO; iintro ⟨J10, E10, HO⟩
  iapply (step_load_half c (dstH 10) (gM 2) rfl fullShare (sentX m (par (rel 10) c) 10)) $$ E10; iintro E10
  iapply (step_load_out m c (insert (par 1 c, 0) (insert (par 0 c, 0) (insert (c, 1) (insert (c, 0) ∅)))) (Rect.unit (s := S512x512) (k0_off7 c) S256x128.size (k0_off7_inb c))) $$ Hout; iintro %_ Hout
  iapply (step_store_out m c (insert (par 1 c, 0) (insert (par 0 c, 0) (insert (c, 1) (insert (c, 0) ∅)))) (par 2 c) 0 (off7_2 c) (outPiece_got m c 2 0)) $$ Hout; iintro Hout
  iapply (step_left m K c 7 [] rfl rfl) $$ HR Hlev J7 HO; iintro ⟨J7, P7, HO⟩
  iapply (step_came m K c 7 [] rfl rfl (by decide)) $$ HR Hlev J7 HO; iintro ⟨J7, E7, HO⟩
  iapply (step_load_half c (dstH 7) (gM 0) rfl fullShare (sentX m (par (rel 7) c) 7)) $$ E7; iintro E7
  iapply (step_load_out m c (insert (par 2 c, 0) (insert (par 1 c, 0) (insert (par 0 c, 0) (insert (c, 1) (insert (c, 0) ∅))))) (Rect.unit (s := S512x512) (k0_off8 c 2#32) S256x128.size (k0_off8_inb c 1))) $$ Hout; iintro %_ Hout
  iapply (step_store_out m c (insert (par 2 c, 0) (insert (par 1 c, 0) (insert (par 0 c, 0) (insert (c, 1) (insert (c, 0) ∅))))) (par 0 c) 1 (off8_0 c) (outPiece_got m c 0 1)) $$ Hout; iintro Hout
  iapply (step_left m K c 9 [] rfl rfl) $$ HR Hlev J9 HO; iintro ⟨J9, P9, HO⟩
  iapply (step_came m K c 9 [] rfl rfl (by decide)) $$ HR Hlev J9 HO; iintro ⟨J9, E9, HO⟩
  iapply (step_load_half c (dstH 9) (gM 1) rfl fullShare (sentX m (par (rel 9) c) 9)) $$ E9; iintro E9
  iapply (step_load_out m c (insert (par 0 c, 1) (insert (par 2 c, 0) (insert (par 1 c, 0) (insert (par 0 c, 0) (insert (c, 1) (insert (c, 0) ∅)))))) (Rect.unit (s := S512x512) (k0_off8 c 1#32) S256x128.size (k0_off8_inb c 0))) $$ Hout; iintro %_ Hout
  iapply (step_store_out m c (insert (par 0 c, 1) (insert (par 2 c, 0) (insert (par 1 c, 0) (insert (par 0 c, 0) (insert (c, 1) (insert (c, 0) ∅)))))) (par 1 c) 1 (off8_1 c) (outPiece_got m c 1 1)) $$ Hout; iintro Hout
  iapply (step_left m K c 11 [] rfl rfl) $$ HR Hlev J11 HO; iintro ⟨J11, P11, HO⟩
  iapply (step_came m K c 11 [] rfl rfl (by decide)) $$ HR Hlev J11 HO; iintro ⟨J11, E11, HO⟩
  iapply (step_load_half c (dstH 11) (gM 2) rfl fullShare (sentX m (par (rel 11) c) 11)) $$ E11; iintro E11
  iapply (step_load_out m c (insert (par 1 c, 1) (insert (par 0 c, 1) (insert (par 2 c, 0) (insert (par 1 c, 0) (insert (par 0 c, 0) (insert (c, 1) (insert (c, 0) ∅))))))) (Rect.unit (s := S512x512) (k0_off9 c) S256x128.size (k0_off9_inb c))) $$ Hout; iintro %_ Hout
  iapply (step_store_out m c (insert (par 1 c, 1) (insert (par 0 c, 1) (insert (par 2 c, 0) (insert (par 1 c, 0) (insert (par 0 c, 0) (insert (c, 1) (insert (c, 0) ∅))))))) (par 2 c) 1 (off9_2 c) (outPiece_got m c 2 1)) $$ Hout; iintro Hout
  rw [wp_ret]; imodintro
  rw [all_blocks c]
  ihave Hout := (out_all m c) $$ Hout
  iapply Hk
  unfold bodyPost allJ
  isplitl [HzB]; · iexact HzB
  isplitl [J0 J1 J2 J3 J4 J5 J6 J7 J8 J9 J10 J11]; · iframe
  isplitl [E0 E1 E2 E3 E4 E5 E6 E7 E8 E9 E10 E11]
  · isplitl [E0 E1 E6 E7]; · iapply (lend_close c 0 0 1 6 7 rfl); iframe
    isplitl [E2 E3 E8 E9]; · iapply (lend_close c 1 2 3 8 9 rfl); iframe
    iapply (lend_close c 2 4 5 10 11 rfl); iframe
  isplitl [Hbb P0 P1 P2 P3 P4 P5 P6 P7 P8 P9 P10 P11]
  · isplitl [Hbb]; · unfold anyB; iexists _; iexact Hbb
    isplitl [P0 P1]; · iapply (partial_back m c 0 0 1 rfl rfl rfl rfl); iframe
    isplitl [P2 P3]; · iapply (partial_back m c 1 2 3 rfl rfl rfl rfl); iframe
    isplitl [P4 P5]; · iapply (partial_back m c 2 4 5 rfl rfl rfl rfl); iframe
    isplitl [P6 P8 P10]; · iapply (finished_back m c 0 6 8 10 rfl rfl rfl rfl rfl rfl rfl rfl rfl); iframe
    iapply (finished_back m c 1 7 9 11 rfl rfl rfl rfl rfl rfl rfl rfl rfl); iframe
  isplitl [HO]; · iexact HO
  isplitl [Ha]; · iexact Ha
  isplitl [Hb]; · iexact Hb
  iexact Hout

end Cert.KProof

end
-- ==== Proof.Region.lean ====
/-
# The kernel's region

What the region's data are (the arrays as launched, what the staging buffers hold after the body, what a device holds and owes before and after),
the scratch buffers cut into the halves that the protocol lends, and the body's obligation from `run_body`.
-/
module

public import proofs.«01_k».proof.Proof.Body
public import Idealize.ShloMosaic.Lib.Pipeline.FrameBody

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The twelve copies as one conjunction -/

theorem allJ_eq (Φ : Fin 12 → sProp 𝕄) : allJ Φ = bigSep Finset.univ Φ :=
  (bigSep_univ_eq_bigSepL [0, 1, 2, 3, 4, 5, 6, 7, 8, 9, 10, 11] (by decide) (by decide) Φ).symm

theorem allJ_sep (Φ Ψ : Fin 12 → sProp 𝕄) : allJ (fun j => iprop(Φ j ∗ Ψ j)) = iprop(allJ Φ ∗ allJ Ψ) := by
  rw [allJ_eq, allJ_eq, allJ_eq, bigSep_sep']

theorem allJ_mono {Φ Ψ : Fin 12 → sProp 𝕄} (h : ∀ j, Φ j ⊢ Ψ j) : allJ Φ ⊢ allJ Ψ := by
  rw [allJ_eq, allJ_eq]; exact bigSep_mono fun j _ => h j

/-! ## The scratch buffers -/

/-- A whole buffer at some contents, as the launch states it and as the body does. -/
theorem whole_any (c : Dev nD) (b : Ref sig .tc) :
    (iprop(∃ f : Buf (Elt F) ((c : Thread nD τ).loc b), ((c : Thread nD τ).loc b) ↦{fullShare} f) : sProp 𝕄)
      ⊣⊢ iprop(∃ X, owns (c : Thread nD τ) (Memref.whole b) fullShare X) := by
  constructor
  · iintro ⟨%f, H⟩
    iexists f
    unfold owns; simp only [Memref.view_whole, View.read_whole, View.set_whole]
    iexists f; isplitr; · (ipureintro; rfl)
    iexact H
  · iintro ⟨%X, H⟩
    unfold owns; simp only [Memref.view_whole, View.read_whole, View.set_whole]
    icases H with ⟨%f, -, H⟩
    iexists f; iexact H

/-- A whole buffer is its two halves. -/
theorem halves_any (c : Dev nD) (M : BM) : (anyB c M : sProp 𝕄) ⊣⊢ iprop(anyH c (halfM M 0) ∗ anyH c (halfM M 1)) := by
  constructor
  · unfold anyB; iintro ⟨%X, H⟩
    ihave H := (split_halves c M fullShare X) $$ H
    icases H with ⟨H0, H1⟩
    isplitl [H0]
    · iapply (anyH_intro c (halfM M 0) (halfV 0 X)); iexact H0
    · iapply (anyH_intro c (halfM M 1) (halfV 1 X)); iexact H1
  · unfold anyB; exact join_halves c M

/-- What is lent along `r` is two whole landing buffers. -/
theorem lend_whole (c : Dev nD) (r : Fin 3) : (iprop(anyB c (rM r) ∗ anyB c (gM r)) : sProp 𝕄) ⊣⊢ lend c r := by
  have h0 : dstH (along r 0) = halfM (rM r) 0 := by match r with | 0 | 1 | 2 => rfl
  have h1 : dstH (along r 1) = halfM (rM r) 1 := by match r with | 0 | 1 | 2 => rfl
  have h2 : dstH (along r 2) = halfM (gM r) 0 := by match r with | 0 | 1 | 2 => rfl
  have h3 : dstH (along r 3) = halfM (gM r) 1 := by match r with | 0 | 1 | 2 => rfl
  unfold lend; rw [h0, h1, h2, h3]
  constructor
  · iintro ⟨HR, HG⟩
    ihave HR := (halves_any c (rM r)).1 $$ HR
    ihave HG := (halves_any c (gM r)).1 $$ HG
    icases HR with ⟨H0, H1⟩
    icases HG with ⟨H2, H3⟩
    iframe
  · iintro ⟨H0, H1, H2, H3⟩
    isplitl [H0 H1]
    · iapply (halves_any c (rM r)).2; iframe
    · iapply (halves_any c (gM r)).2; iframe

/-- The scratch buffers as the body finds them. -/
def scratchIn (c : Dev nD) : sProp 𝕄 :=
  iprop((lend c 0 ∗ lend c 1 ∗ lend c 2)
    ∗ (anyB c bbM ∗ anyB c (sbM 0) ∗ anyB c (sbM 1) ∗ anyB c (sbM 2) ∗ anyH c (halfM agM 0) ∗ anyH c (halfM agM 1)))
/-- The scratch buffers as the body leaves them. -/
def scratchOut (c : Dev nD) : sProp 𝕄 :=
  iprop((lend c 0 ∗ lend c 1 ∗ lend c 2)
    ∗ (anyB c bbM ∗ (anyH c (halfM (sbM 0) 0) ∗ anyH c (halfM (sbM 0) 1)) ∗ (anyH c (halfM (sbM 1) 0) ∗ anyH c (halfM (sbM 1) 1))
      ∗ (anyH c (halfM (sbM 2) 0) ∗ anyH c (halfM (sbM 2) 1)) ∗ anyH c (halfM agM 0) ∗ anyH c (halfM agM 1)))

/-- The scratch buffers, whole. -/
def scratchAll (c : Dev nD) : sProp 𝕄 :=
  iprop(anyB c bbM ∗ anyB c (sbM 1) ∗ anyB c (sbM 2) ∗ anyB c (sbM 0) ∗ anyB c (rM 1) ∗ anyB c (rM 2) ∗ anyB c (rM 0) ∗ anyB c agM
    ∗ anyB c (gM 1) ∗ anyB c (gM 2) ∗ anyB c (gM 0))

theorem scopedRest_all (c : Dev nD) :
    (Pipeline.scopedRest (Ix := Unit) (Name := ℕ) (U := UU) (Lvl := ℕ) (Val := Elt F) spec0 c : sProp 𝕄) ⊣⊢ scratchAll c := by
  rw [scopedRest0_eq]; unfold scratchAll anyB
  have W (b : Ref sig .tc) := whole_any (F := F) c b
  constructor
  · exact BIClass.sep_mono (W cc0_scratch0).1 (BIClass.sep_mono (W cc0_scratch1).1 (BIClass.sep_mono (W cc0_scratch2).1 (BIClass.sep_mono (W cc0_scratch3).1 (BIClass.sep_mono (W cc0_scratch4).1 (BIClass.sep_mono (W cc0_scratch5).1 (BIClass.sep_mono (W cc0_scratch6).1 (BIClass.sep_mono (W cc0_scratch7).1 (BIClass.sep_mono (W cc0_scratch8).1 (BIClass.sep_mono (W cc0_scratch9).1 (W cc0_scratch10).1)))))))))
  · exact BIClass.sep_mono (W cc0_scratch0).2 (BIClass.sep_mono (W cc0_scratch1).2 (BIClass.sep_mono (W cc0_scratch2).2 (BIClass.sep_mono (W cc0_scratch3).2 (BIClass.sep_mono (W cc0_scratch4).2 (BIClass.sep_mono (W cc0_scratch5).2 (BIClass.sep_mono (W cc0_scratch6).2 (BIClass.sep_mono (W cc0_scratch7).2 (BIClass.sep_mono (W cc0_scratch8).2 (BIClass.sep_mono (W cc0_scratch9).2 (W cc0_scratch10).2)))))))))

theorem scratch_in (c : Dev nD) : (scratchAll c : sProp 𝕄) ⊢ scratchIn c := by
  unfold scratchAll scratchIn
  iintro ⟨Hbb, Hs1, Hs2, Hs0, Hr1, Hr2, Hr0, Ha, Hg1, Hg2, Hg0⟩
  isplitl [Hr0 Hg0 Hr1 Hg1 Hr2 Hg2]
  · isplitl [Hr0 Hg0]; · iapply (lend_whole c 0).1; iframe
    isplitl [Hr1 Hg1]; · iapply (lend_whole c 1).1; iframe
    iapply (lend_whole c 2).1; iframe
  ihave Ha := (halves_any c agM).1 $$ Ha
  icases Ha with ⟨Ha0, Ha1⟩
  iframe

theorem scratch_out (c : Dev nD) : scratchOut c ⊢ (scratchAll c : sProp 𝕄) := by
  unfold scratchAll scratchOut
  iintro ⟨⟨L0, L1, L2⟩, Hbb, Hs0, Hs1, Hs2, Ha⟩
  ihave L0 := (lend_whole c 0).2 $$ L0; icases L0 with ⟨Hr0, Hg0⟩
  ihave L1 := (lend_whole c 1).2 $$ L1; icases L1 with ⟨Hr1, Hg1⟩
  ihave L2 := (lend_whole c 2).2 $$ L2; icases L2 with ⟨Hr2, Hg2⟩
  ihave Hs0 := (halves_any c (sbM 0)).2 $$ Hs0
  ihave Hs1 := (halves_any c (sbM 1)).2 $$ Hs1
  ihave Hs2 := (halves_any c (sbM 2)).2 $$ Hs2
  ihave Ha := (halves_any c agM).2 $$ Ha
  iframe

/-! ## What a device starts with -/

/-- The tokens and positions of copy `j` that the launch deals to `c`. -/
def jTok (c : Dev nD) (j : Fin 12) : sProp 𝕄 :=
  iprop(dutyTok ER (sendCell c j) 0 (0 : Fin 3) ∗ dutyTok ER (recvCell (par (rel j) c) j) 0 (0 : Fin 3)
    ∗ atPos ER (sendCell c j) 0 (∅ : Finset (Fin 3)) 0 ∗ atPos ER (recvCell c j) 0 (∅ : Finset (Fin 3)) 0)

/-- What of the protocol's state is `c`'s own: its tokens and positions. -/
def own₀ (c : Dev nD) : sProp 𝕄 :=
  iprop(atPos ER (barCell c) 0 (∅ : Finset (Fin 3)) 0
    ∗ (dutyTok ER (barCell (par 0 c)) 0 (0 : Fin 3) ∗ dutyTok ER (barCell (par 1 c)) 0 (1 : Fin 3) ∗ dutyTok ER (barCell (par 2 c)) 0 (2 : Fin 3))
    ∗ allJ (jTok c))

/-- The credit that the launch gives `c`: three signals, and one arrival of each copy. -/
def cred₀ (c : Dev nD) : sProp 𝕄 := iprop(cred (tallyAt (barCell c) () 3) ∗ allJ fun j => cred (tallyAt (recvCell c j) () N))

/-- What `c` has when the region starts, but for its scratch buffers. -/
def start (c : Dev nD) : sProp 𝕄 := iprop((∃ K, recs m K ∗ own₀ c) ∗ cred₀ c ∗ levAts L lv)

def Φ₀ (c : Dev nD) : sProp 𝕄 := iprop(start m c ∗ scratchIn c)
def Φ₁ (c : Dev nD) : sProp 𝕄 := iprop((semVal (barCell c) 0 ∗ allJ (j3 c)) ∗ scratchOut c)

theorem j0_of (c : Dev nD) : (iprop(allJ (jTok c) ∗ allJ fun j => cred (tallyAt (recvCell c j) () N)) : sProp 𝕄) ⊢ allJ (j0 c) := by
  rw [← allJ_sep]
  refine allJ_mono fun j => ?_
  unfold jTok j0
  iintro ⟨⟨H1, H2, H3, H4⟩, H5⟩
  iframe

/-- The region's data on device `c`. -/
def dats (_ : Fin 1) (c : Dev nD) : Dat τ (Elt F) Unit ℕ UU ℕ cfg0 c where
  A w := m ((cfg0.win w).arr.view.loc (c : Thread nD τ))
  after w _ := match w with
    | ⟨0, _⟩ => aIn m c
    | ⟨1, _⟩ => bIn m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem windows (Φ : Fin cfg0.W → sProp 𝕄) : bigSep Finset.univ Φ = iprop(Φ (0 : Fin 3) ∗ Φ (1 : Fin 3) ∗ Φ (2 : Fin 3)) := bigSep_W0 Φ

/-- The staging buffers hold the arguments' blocks when the body starts. -/
theorem before_a (c : Dev nD) (d) : (dats m 0 c).before (0 : Fin 3) t₀ d = aIn m c := by unfold Dat.before; rw [if_pos (fetch0_0 t₀)]; rfl
theorem before_b (c : Dev nD) (d) : (dats m 0 c).before (1 : Fin 3) t₀ d = bIn m c := by unfold Dat.before; rw [if_pos (fetch0_1 t₀)]; rfl

def oblPre (c : Dev nD) : sProp 𝕄 :=
  iprop(Φ₀ m c ∗ (dats m 0 c).owesAt () t₀.castSucc
    ∗ (∃ d, owns (c : Thread nD τ) aM fullShare ((dats m 0 c).before (0 : Fin 3) t₀ d))
    ∗ (∃ d, owns (c : Thread nD τ) bM fullShare ((dats m 0 c).before (1 : Fin 3) t₀ d))
    ∗ (∃ d, owns (c : Thread nD τ) oM fullShare ((dats m 0 c).before (2 : Fin 3) t₀ d)))

def oblPost (c : Dev nD) : sProp 𝕄 :=
  iprop(Φ₁ c ∗ (dats m 0 c).owesAt () t₀.succ ∗ owns (c : Thread nD τ) aM fullShare (aIn m c) ∗ owns (c : Thread nD τ) bM fullShare (bIn m c)
    ∗ owns (c : Thread nD τ) oM fullShare (outAt m c))

theorem obl_pre (c : Dev nD) : oblPre m c ⊢ iprop(∃ K, bodyPre m K c) := by
  unfold oblPre Φ₀ start own₀ cred₀ scratchIn Dat.owesAt Pipeline.owesWithin
  rw [show (dats m 0 c).owed t₀.castSucc = O₀ c from rfl]
  iintro ⟨⟨⟨⟨%K, HR, HatB, Ht, HJ⟩, ⟨HcB, HcJ⟩, Hlev⟩, HL, HS⟩, ⟨%W, -, HO⟩, ⟨%d0, Ha⟩, ⟨%d1, Hb⟩, ⟨%d2, Ho⟩⟩
  rw [before_a, before_b]
  iexists K
  unfold bodyPre
  isplitl [HR]; · iexact HR
  isplitl [Hlev]; · iexact Hlev
  isplitl [HatB HcB]; · iframe
  isplitl [Ht]; · iexact Ht
  isplitl [HJ HcJ]; · iapply (j0_of c); iframe
  isplitl [HL]; · iexact HL
  isplitl [HS]; · iexact HS
  isplitl [HO]; · unfold ow; iexists W; iexact HO
  isplitl [Ha]; · iexact Ha
  isplitl [Hb]; · iexact Hb
  unfold anyB; iexists _; iexact Ho

theorem obl_post (c : Dev nD) : bodyPost m c ⊢ oblPost m c := by
  unfold oblPost bodyPost Φ₁ scratchOut ow Dat.owesAt Pipeline.owesWithin
  rw [show (dats m 0 c).owed t₀.succ = 0 from rfl]
  iintro ⟨HzB, HJ, HL, HS, ⟨%W, HO⟩, Ha, Hb, Ho⟩
  isplitl [HzB HJ HL HS]
  · isplitl [HzB HJ]; · iframe
    isplitl [HL]; · iexact HL
    iexact HS
  isplitl [HO]
  · iexists W
    isplitr; · ipureintro; exact fun _ _ => Or.inl trivial
    iexact HO
  iframe

/-- The body's obligation on device `c`. -/
theorem body_obligation (c : Dev nD) : BodyObligation (dats (F := F) m 0 c) (defs₀ (F := F)) 𝒱₀ () Set.univ := fun t => by
  rw [fin_N t]
  rw [windows, windows]
  show oblPre m c ⊢ wp frame (wpE (defs₀ (F := F)) 𝒱₀ c none) Set.univ
    (cc0_body aM (Memref.isWhole_whole _) bM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12) (fun _ => oblPost m c)
  iintro H
  ihave H := (obl_pre m c) $$ H
  icases H with ⟨%K, H⟩
  iapply (run_body m K c fun _ => oblPost m c)
  isplitl [H]; · iexact H
  iintro H; iapply (obl_post m c); iexact H

end Cert.KProof

end
-- ==== Proof.Launch.lean ====
/-
# The launch

The protocol's cells and tokens set up on all devices, each token dealt to the device that pays it, the credit each
device starts with, and the run of the whole program.
-/
module

public import proofs.«01_k».proof.Proof.Region
public import Idealize.ShloMosaic.Lib.Quiescent
public import Idealize.ShloMosaic.Lib.Pipeline.CollectiveSegs

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

/-- The duties of a device's cells: three signals on its barrier, one departure and one arrival of each copy. -/
abbrev TokIx : Type := Fin 3 ⊕ (Fin 12 ⊕ Fin 12)
abbrev tokSem : TokIx → SemLoc sig
  | .inl _ => .reg barS
  | .inr (.inl j) => .dma (sendS j)
  | .inr (.inr j) => .dma (recvS j)
abbrev tokDuty : TokIx → Fin 3
  | .inl r => r
  | .inr _ => 0
abbrev tokOf (x : Dev nD × TokIx) : GSem nD τ sig × ℕ × Fin 3 := (((x.1 : Thread nD τ), tokSem x.2), 0, tokDuty x.2)

/-- The semaphores that are the kernel's own, without the barrier. -/
abbrev osem : Fin 12 ⊕ Fin 12 → SemLoc sig
  | .inl j => .dma (sendS j)
  | .inr j => .dma (recvS j)

theorem own_facts : Pipeline.OwnSemFacts cfg0.spec osem := by decide

theorem csem_inj : Function.Injective csem := by decide
theorem tok_inj : Function.Injective fun x : TokIx => (tokSem x, tokDuty x) := by decide

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_inj (congrArg Prod.snd h)
  rw [h1, h2]

theorem tokOf_injective : Function.Injective (tokOf : Dev nD × TokIx → GSem nD τ sig × ℕ × Fin 3) := by
  rintro ⟨c, k⟩ ⟨c', k'⟩ h
  have h1 : c = c' := congrArg (fun g : GSem nD τ sig × ℕ × Fin 3 => g.1.1.1) h
  have h2 : k = k' := tok_inj (congrArg (fun g : GSem nD τ sig × ℕ × Fin 3 => (g.1.2, g.2.2)) h)
  rw [h1, h2]

def allCells : Finset (GSem nD τ sig) := Finset.univ.map ⟨kcell, kcell_injective⟩
def allToks : Finset (GSem nD τ sig × ℕ × Fin 3) := Finset.univ.map ⟨tokOf, tokOf_injective⟩

/-- The launch element: the pipeline's part and the protocol's. -/
def u₀ : UU := (initOf (Pipeline.cells cfgs cellOf_inj) (Pipeline.launchToks cfgs cellOf_inj), initOf allCells allToks)

/-- A conjunction over a device's cells, kind by kind. -/
theorem cells_split (Φ : CellIx → sProp 𝕄) : bigSep Finset.univ Φ = iprop(Φ bIx ∗ allJ (fun j => Φ (sIx j)) ∗ allJ (fun j => Φ (rIx j))) := by
  rw [bigSep_univ_sum, bigSep_univ_sum, bigSep_univ_of_subsingleton (), allJ_eq, allJ_eq]; rfl

theorem toks_split (Φ : TokIx → sProp 𝕄) :
    bigSep Finset.univ Φ = iprop((Φ (.inl 0) ∗ Φ (.inl 1) ∗ Φ (.inl 2)) ∗ allJ (fun j => Φ (.inr (.inl j))) ∗ allJ (fun j => Φ (.inr (.inr j)))) := by
  rw [bigSep_univ_sum, bigSep_univ_sum, allJ_eq, allJ_eq, bigSep_univ_eq_bigSepL [(0 : Fin 3), (1 : Fin 3), (2 : Fin 3)] (by decide) (by decide)]; rfl

/-- The tokens of device `c`'s own cells. -/
def tokAt (c : Dev nD) (k : TokIx) : sProp 𝕄 := dutyTok ER ((c : Thread nD τ), tokSem k) 0 (tokDuty k)

/-- What the launch element deals device `c`. -/
def G (c : Dev nD) : sProp 𝕄 :=
  iprop((bigSep Finset.univ fun k : CellIx => roundState ER (kRd m) (kcell (c, k)) 0)
    ∗ (bigSep Finset.univ fun k : CellIx => reached ER (kcell (c, k)) 0)
    ∗ (bigSep Finset.univ fun k : CellIx => atPos ER (kcell (c, k)) 0 (∅ : Finset (Fin 3)) 0) ∗ bigSep Finset.univ (tokAt c))

/-- What a device has of the protocol when the region starts. -/
def G' (c : Dev nD) : sProp 𝕄 := iprop(∃ K, recs m K ∗ own₀ c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ (tokAt c) := by
    unfold allToks; rw [bigSep_map, bigSep_univ_prod]; rfl
  refine (Rounds.fund ER (kRd m) allCells allToks).trans (BI.bupd_mono ?_)
  unfold G
  rw [hX, hX, hX, hT, bigSep_sep', bigSep_sep', bigSep_sep']
  exact BI.Entails.refl _

/-! ## The invariants -/

theorem unscoped_eq (c : Dev nD) : (unscopedSems0 c : sProp 𝕄) = semVal (barCell c) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = iprop(allJ (fun j => semVal (sendCell c j) 0) ∗ allJ (fun j => semVal (recvCell c j) 0)) := by
  unfold Pipeline.ownSems0
  rw [bigSep_univ_sum, allJ_eq, allJ_eq]; rfl

/-- All semaphores of the protocol on `c`, at zero. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CellIx => semVal (kcell (c, k)) 0 : sProp 𝕄) := by
  rw [own_eq, unscoped_eq, cells_split]

/-- The invariants of one device's cells. -/
theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (kRd m) κ (kcell (c, k))))
          ∗ (bigSep Finset.univ fun k : CellIx => reached ER (kcell (c, k)) 0)
          ∗ (bigSep Finset.univ fun k : CellIx => atPos ER (kcell (c, k)) 0 (∅ : Finset (Fin 3)) 0) ∗ bigSep Finset.univ (tokAt c)) := by
  have hinv : iprop((bigSep Finset.univ fun k : CellIx => semVal (kcell (c, k)) 0) ∗ bigSep Finset.univ fun k : CellIx => roundState ER (kRd m) (kcell (c, k)) 0)
      ⊢ (|={Set.univ}=> bigSep Finset.univ fun k : CellIx => iprop(∃ κ : ℕ, cellInv ER (kRd m) κ (kcell (c, k))) : sProp 𝕄) := by
    rw [← bigSep_sep']
    exact (bigSep_mono fun k _ => (Rounds.body_intro ER (kRd m) (kcell (c, k))).trans inv_alloc).trans (bigSep_fupd _ _)
  unfold G
  iintro ⟨Hos, Hus, Hst, Hrest⟩
  ihave Hv := (Entails.of_eq (sems_eq (F := F) c)) $$ [Hos Hus]
  · isplitl [Hus] <;> iassumption
  imod hinv $$ [Hv Hst] with Hinv
  · isplitl [Hv] <;> iassumption
  imodintro
  isplitl [Hinv] <;> iassumption

/-! ## The tokens dealt to their payers -/

/-- A family over the devices, each member moved along its own partner relation. -/
theorem along_partners {I : Type} [Fintype I] [DecidableEq I] (f : I → Fin 3) (Φ : I → Dev nD → sProp 𝕄) :
    (bigSep Finset.univ fun c : Dev nD => bigSep Finset.univ fun i => Φ i c) = bigSep Finset.univ fun c : Dev nD => bigSep Finset.univ fun i => Φ i (par (f i) c) := by
  rw [bigSep_univ_comm, bigSep_univ_comm (fun (c : Dev nD) (i : I) => Φ i (par (f i) c))]
  exact bigSep_congr fun i _ => bigSep_univ_equiv (parE (f i)) (Φ i)

/-- The tokens of the duties that `c` pays: departures of its own, signals and arrivals of its partners. -/
def payAt (c : Dev nD) : TokIx → sProp 𝕄
  | .inl r => tokAt (par r c) (.inl r)
  | .inr (.inl j) => tokAt c (.inr (.inl j))
  | .inr (.inr j) => tokAt (par (rel j) c) (.inr (.inr j))

theorem toks_dealt : (bigSep Finset.univ fun c : Dev nD => bigSep Finset.univ (tokAt (F := F) c)) = bigSep Finset.univ fun c : Dev nD => bigSep Finset.univ (payAt (F := F) c) := by
  have h (Φ : Dev nD → TokIx → sProp 𝕄) : (bigSep Finset.univ fun c : Dev nD => bigSep Finset.univ (Φ c))
      = iprop((bigSep Finset.univ fun c : Dev nD => bigSep Finset.univ fun r => Φ c (.inl r))
        ∗ (bigSep Finset.univ fun c : Dev nD => bigSep Finset.univ fun j => Φ c (.inr (.inl j)))
        ∗ (bigSep Finset.univ fun c : Dev nD => bigSep Finset.univ fun j => Φ c (.inr (.inr j)))) := by
    rw [← bigSep_sep', ← bigSep_sep']
    exact bigSep_congr fun c _ => by rw [bigSep_univ_sum, bigSep_univ_sum]; rfl
  rw [h, h]
  rw [along_partners (fun r => r) (fun (r : Fin 3) (c : Dev nD) => tokAt (F := F) c (.inl r)),
    along_partners rel (fun (j : Fin 12) (c : Dev nD) => tokAt (F := F) c (.inr (.inr j)))]
  rfl

/-- A device's positions and the tokens it pays are what it starts with. -/
theorem own_intro (c : Dev nD) :
    iprop((bigSep Finset.univ fun k : CellIx => atPos ER (kcell (c, k)) 0 (∅ : Finset (Fin 3)) 0) ∗ bigSep Finset.univ (payAt c)) ⊢ (own₀ c : sProp 𝕄) := by
  rw [cells_split, toks_split]
  unfold own₀ jTok
  simp only [allJ_sep]
  unfold payAt tokAt
  iintro ⟨⟨HB, HS, HR⟩, HT, HTS, HTR⟩
  iframe

theorem regroup :
    (bigSep Finset.univ fun c : Dev nD => iprop((bigSep Finset.univ fun k : CellIx => iprop(∃ κ : ℕ, cellInv ER (kRd m) κ (kcell (c, k))))
          ∗ (bigSep Finset.univ fun k : CellIx => reached ER (kcell (c, k)) 0)
          ∗ (bigSep Finset.univ fun k : CellIx => atPos ER (kcell (c, k)) 0 (∅ : Finset (Fin 3)) 0) ∗ bigSep Finset.univ (tokAt c)) : sProp 𝕄)
      ⊢ bigSep Finset.univ (G' m) := by
  rw [bigSep_sep', bigSep_sep', bigSep_sep', ← bigSep_univ_prod (fun x : Dev nD × CellIx => iprop(∃ κ : ℕ, cellInv ER (kRd m) κ (kcell x))),
    ← bigSep_univ_prod (fun x : Dev nD × CellIx => (reached ER (kcell x) 0 : sProp 𝕄)), toks_dealt]
  iintro ⟨HI, #HR, Hat, Htok⟩
  ihave HK := (BI.bigSep_exists_pi Finset.univ (fun (x : Dev nD × CellIx) (κ : ℕ) => (cellInv ER (kRd m) κ (kcell x) : sProp 𝕄))) $$ HI
  icases HK with ⟨%K, #HI⟩
  have step (c : Dev nD) : iprop(recs m K ∗ (bigSep Finset.univ fun k : CellIx => atPos ER (kcell (c, k)) 0 (∅ : Finset (Fin 3)) 0) ∗ bigSep Finset.univ (payAt c)) ⊢ G' m c := by
    unfold G'
    iintro ⟨Hrec, Hown⟩
    iexists K
    isplitl [Hrec]; · iexact Hrec
    iapply (own_intro c); iexact Hown
  iapply (bigSep_with_persistent (R := recs m K) fun c _ => step c)
  isplitr
  · unfold recs; isplitl; · iexact HI
    iexact HR
  · rw [bigSep_sep']
    isplitl [Hat] <;> iassumption

/-- The protocol set up on all devices at once. -/
theorem set_up : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (regroup m))

/-! ## The credit at launch -/

/-- When every device owes its partner along `r` the amount `n` at one semaphore, every device is owed `n` there. -/
theorem cred_partner (r : Fin 3) (sm : SemLoc sig) (n : ℕ) (c : Dev nD) :
    (Pipeline.launchCred (fun d => (tallyAt ((par r d : Thread nD τ), sm) () n : CellTallies nD τ sig Unit)) c : sProp 𝕄)
      ⊢ cred (tallyAt ((c : Thread nD τ), sm) () n) := by
  have hd (d : Dev nD) := tallyAt_apply ((par r d : Thread nD τ), sm) () n ((c : Thread nD τ), sm) ()
  refine (Pipeline.launchCred_elim _ c sm).trans (Entails.of_eq (congrArg cred ?_))
  rw [show (tallyAt ((c : Thread nD τ), sm) () n : CellTallies nD τ sig Unit) = tallyOn ((c : Thread nD τ), sm) (Finsupp.single () n) from rfl]
  refine congrArg _ (Finsupp.ext fun u => ?_); cases u
  rw [Pipeline.launchCredit_owing, Finsupp.single_eq_same]
  rw [Finset.sum_congr rfl fun d _ => hd d, Finset.sum_eq_single (par r c)]
  · exact if_pos ⟨by rw [par_par], rfl⟩
  · intro d _ hd
    refine if_neg fun h => hd ?_
    have : c = par r d := congrArg (fun g : GSem nD τ sig => g.1.1) h.1
    rw [this, par_par]
  · exact fun h => absurd (Finset.mem_univ _) h

/-- The copies in a list, each owed to its receiver, credit each receiver. -/
theorem cred_list (c : Dev nD) : ∀ l : List (Fin 12), l.Nodup →
    ((Pipeline.launchCred (fun d => tal d l) c : sProp 𝕄) ⊢ bigSep l.toFinset fun j => cred (tallyAt (recvCell c j) () N))
  | [], _ => by
      show (Pipeline.launchCred (fun _ : Dev nD => (0 : CellTallies nD τ sig Unit)) c : sProp 𝕄) ⊢ _
      rw [Pipeline.launchCred_zero, List.toFinset_nil, bigSep_empty]; exact .rfl
  | j :: l, h => by
      have hj := (List.nodup_cons.mp h)
      show (Pipeline.launchCred (fun d => tal d l + tallyAt (recvCell (par (rel j) d) j) () N) c : sProp 𝕄) ⊢ _
      rw [Pipeline.launchCred_add, List.toFinset_cons]
      refine BIBase.Entails.trans (Q := iprop(cred (tallyAt (recvCell c j) () N) ∗ bigSep l.toFinset fun j => cred (tallyAt (recvCell c j) () N))) ?_
        (Entails.of_eq (bigSep_insert (s := l.toFinset) (i := j) (Φ := fun j : Fin 12 => (cred (tallyAt (recvCell c j) () N) : sProp 𝕄)) (by rw [List.mem_toFinset]; exact hj.1)).symm)
      iintro ⟨H1, H2⟩
      isplitl [H2]
      · iapply (cred_partner (rel j) (.dma (recvS j)) N c); iexact H2
      · iapply (cred_list c l hj.2); iexact H1

theorem cred_launch (c : Dev nD) : (Pipeline.launchCred O₀ c : sProp 𝕄) ⊢ cred₀ c := by
  show (Pipeline.launchCred (fun d => ((tal d order + tallyAt (barCell (par 0 d)) () 1) + tallyAt (barCell (par 2 d)) () 1) + tallyAt (barCell (par 1 d)) () 1) c : sProp 𝕄) ⊢ _
  rw [Pipeline.launchCred_add, Pipeline.launchCred_add, Pipeline.launchCred_add]
  unfold cred₀
  rw [allJ_eq, ← (show order.toFinset = Finset.univ by decide), ← tallyAt_add (barCell c) () 2 1, ← tallyAt_add (barCell c) () 1 1]
  iintro ⟨⟨⟨HT, H0⟩, H2⟩, H1⟩
  ihave H0 := (cred_partner (F := F) 0 (.reg barS) 1 c) $$ H0
  ihave H1 := (cred_partner (F := F) 1 (.reg barS) 1 c) $$ H1
  ihave H2 := (cred_partner (F := F) 2 (.reg barS) 1 c) $$ H2
  isplitl [H0 H1 H2]
  · iapply (cred_add _ _).2
    isplitl [H0 H1]
    · iapply (cred_add _ _).2
      isplitl [H0] <;> iassumption
    iexact H2
  · iapply (cred_list c order (by decide)); iexact HT

/-! ## The run of the program -/

variable (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (cred_launch (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iapply (scratch_in c); iapply (scopedRest_all c).1; iexact Hr

theorem leave (c : Dev nD) :
    (dats m 0 c).Φ (Fin.last cfg0.N) ⊢ iprop(unscopedSems0 c ∗ Pipeline.ownSems0 osem c ∗ Pipeline.scopedRest cfg0.spec c) := by
  show Φ₁ c ⊢ _
  rw [own_eq, unscoped_eq]
  unfold Φ₁ j3
  rw [allJ_sep]
  iintro ⟨⟨HB, HJ⟩, Hs⟩
  isplitl [HB]; · iexact HB
  isplitl [HJ]; · iexact HJ
  iapply (scopedRest_all c).2; iapply (scratch_out c); iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- For any float values, from any memory with all counters at zero, every weakly fair execution of the program ends; at
    the end every device's arrays are what the region's data say, and every counter is at zero. -/
theorem run_region : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array of device `c` when the program ends. -/
def resultAt (c : Dev nD) : Buf (Elt F) ((c : Thread nD τ).loc main_v1) := (dats m 0 c).arrAt (2 : Fin 3) cfg0.N

/-- The same, device by device: the arguments are unchanged, the result array holds `resultAt`, every counter is at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = resultAt m c) ∧ r.2.sem = fun _ => 0) :=
  (θ_run defs _ _).mono (fun _ h => ⟨fun c => ⟨(h.1 c 0).trans ((dats m 0 c).arrAt_in 0 rfl _), (h.1 c 1).trans ((dats m 0 c).arrAt_in 1 rfl _), h.1 c 2⟩, h.2⟩)
    (run_region m ρ)

end Cert.KProof

end
-- ==== Proof.Holds.lean ====
/-
# What the result array holds, at the exact values

Every device's result array ends holding the same matrix: at a row and a column, the sum over the four devices of their
partial products there, cut at zero. The devices add the four in different orders, which makes no difference at the
extended reals.
-/
module

public import proofs.«01_k».proof.Proof.Block
public import proofs.«01_k».proof.Proof.Launch
public import Idealize.ShloMosaic.Lib.Pipeline.ValueKit.Geometry
public import Mathlib.Tactic.Abel

@[expose] public section

set_option maxRecDepth 16384

noncomputable section

namespace Cert.KProof

open Cert.KernelIdeal Cert.KernelIdeal.Gen

open Idealize.ShloMosaic Idealize.ShloMosaic.TcCoe Idealize.ShloMosaic.ValueIdx
open scoped BigOperators

section AnyFloats
variable {F : FTy → Type} [FloatOps F]
variable (m : (ℓ : Loc nD τ sig) → Buf (Elt F) ℓ)

/-- The result array ends at what the body leaves in the output buffer. -/
theorem resultAt_eq (c : Dev nD) : resultAt m c = outAt m c :=
  (dats m 0 c).arrAt_eq_of_after_last (2 : Fin 3) t₀ (by decide +kernel) (outAt m c) fun _ => rfl

/-- The staged first argument is the whole argument array. -/
theorem aIn_apply (c : Dev nD) (i : Fin 512) (k : Fin 256) :
    aIn m c (ix2 i k) = (m ((c : Thread nD τ).loc main_arg0) : S512x256.Idx → Elt F .f32) (ix2 i k) := by
  refine congrArg (m ((c : Thread nD τ).loc main_arg0) : S512x256.Idx → Elt F .f32) (funext fun a => Fin.ext ?_)
  match a with
  | ⟨0, _⟩ => show 0 + 1 * i.val = i.val; omega
  | ⟨1, _⟩ => show 0 + 1 * k.val = k.val; omega

/-- The staged second argument is the whole argument array. -/
theorem bIn_apply (c : Dev nD) (k : Fin 256) (j : Fin 512) :
    bIn m c (ix2 k j) = (m ((c : Thread nD τ).loc main_arg1) : S256x512.Idx → Elt F .f32) (ix2 k j) := by
  refine congrArg (m ((c : Thread nD τ).loc main_arg1) : S256x512.Idx → Elt F .f32) (funext fun a => Fin.ext ?_)
  match a with
  | ⟨0, _⟩ => show 0 + 1 * k.val = k.val; omega
  | ⟨1, _⟩ => show 0 + 1 * j.val = j.val; omega

end AnyFloats

variable (m : (ℓ : Loc nD τ sig) → Buf (Elt Ideal) ℓ)

/-- The two arguments that device `d` holds. -/
def argA (d : Dev nD) : S512x256.Idx → EReal := m ((d : Thread nD τ).loc main_arg0)
def argB (d : Dev nD) : S256x512.Idx → EReal := m ((d : Thread nD τ).loc main_arg1)

/-- The partial product of device `d` at row `i` and column `j` of the output. -/
def part (d : Dev nD) (i j : Fin 512) : EReal := ∑ k : Fin 256, argA m d (ix2 i k) * argB m d (ix2 k j)

/-- The product of the arguments that device `c` holds, at the columns of device `d`. -/
theorem product_part (c d : Dev nD) (i : Fin 512) (j : Fin 128) :
    k0_pay7 (F := Ideal) (aIn m c) (colB m c d) (ix2 i j) = part m c i (col d j) := by
  rw [product_apply]
  refine Finset.sum_congr rfl fun k _ => congrArg₂ (· * ·) (aIn_apply m c i k) ?_
  show k0_pay3 (F := Ideal) (bIn m c) ((colR d).emb (ix2 k j)) = _
  rw [round_b, colR_ix2]
  exact bIn_apply m c k (col d j)

/-- What came from the partner along `r` is the partner's partial product at the own columns. -/
theorem gotX_apply (c : Dev nD) (r : Fin 3) (h : Fin 2) (i : Fin 256) (j : Fin 128) :
    gotX m c r h (ix2 i j) = part m (par r c) (row h i) (col c j) := by
  show sendX m (par r c) r ((halfR h).emb (ix2 i j)) = _
  rw [halfR_ix2]
  unfold sendX
  rw [sent_eq, product_part, par_par]

/-- The own partial product and the three partners' are those of the four devices, each once. -/
theorem sum_partners (f : Dev nD → EReal) (c : Dev nD) : f c + f (par 0 c) + f (par 1 c) + f (par 2 c) = ∑ d : Dev nD, f d := by
  rw [show (∑ d : Dev nD, f d) = f (0 : Fin 4) + f (1 : Fin 4) + f (2 : Fin 4) + f (3 : Fin 4) from Fin.sum_univ_four f]
  match c with
  | ⟨0, _⟩ => show f (0 : Fin 4) + f (2 : Fin 4) + f (1 : Fin 4) + f (3 : Fin 4) = _; abel
  | ⟨1, _⟩ => show f (1 : Fin 4) + f (3 : Fin 4) + f (0 : Fin 4) + f (2 : Fin 4) = _; abel
  | ⟨2, _⟩ => show f (2 : Fin 4) + f (0 : Fin 4) + f (3 : Fin 4) + f (1 : Fin 4) = _; abel
  | ⟨3, _⟩ => show f (3 : Fin 4) + f (1 : Fin 4) + f (2 : Fin 4) + f (0 : Fin 4) = _; abel

/-- The matrix that every device ends with. -/
def total (i j : Fin 512) : EReal := max (∑ d : Dev nD, part m d i j) 0

/-- The finished half `h` of the column block of `c`. -/
theorem mineX_apply (c : Dev nD) (h : Fin 2) (i : Fin 256) (j : Fin 128) : mineX m c h (ix2 i j) = total m (row h i) (col c j) := by
  have hs := sum_partners (fun d => part m d (row h i) (col c j)) c
  unfold total
  rw [← hs]
  match h with
  | ⟨0, _⟩ =>
    refine (first_rows_apply _ _ _ _ _ i j).trans ?_
    rw [round_a, product_part, gotX_apply, gotX_apply, gotX_apply]; rfl
  | ⟨1, _⟩ =>
    refine (last_rows_apply _ _ _ _ _ i j).trans ?_
    rw [round_a, product_part, gotX_apply, gotX_apply, gotX_apply]; rfl

/-- The rounding of a finished half changes nothing. -/
theorem agX_eq (c : Dev nD) (h : Fin 2) : agX m c h = mineX m c h := by
  match h with
  | ⟨0, _⟩ =>
    exact shapeCast_self (k0_pay11 (F := Ideal) (k0_pay9 (k0_pay8 (k0_pay2 (aIn m c)) (colB m c c) (gotX m c 0 0)) (gotX m c 1 0) (gotX m c 2 0)) k0_pay10)
      shapeCasts_S256x128_S256x128
  | ⟨1, _⟩ =>
    exact shapeCast_self (k0_pay14 (F := Ideal) (k0_pay13 (k0_pay7 (k0_pay2 (aIn m c)) (colB m c c)) (gotX m c 0 1)) (gotX m c 1 1) (gotX m c 2 1))
      shapeCasts_S256x128_S256x128

/-- A block of the output: on every device, the finished half of the device whose columns it is at. -/
theorem outPiece_eq (c d : Dev nD) (h : Fin 2) : outPiece m c d h = mineX m d h := by
  unfold outPiece
  split
  · next e => rw [e]
  · rw [agX_eq]; rfl

/-- The result array of every device, at row `i` and column `j`. -/
theorem resultAt_apply (c : Dev nD) (i j : Fin 512) : (resultAt m c : S512x512.Idx → EReal) (ix2 i j) = total m i j := by
  rw [resultAt_eq]
  unfold outAt
  rw [outPiece_eq]
  have e : inBlk (ix2 i j) = (ix2 ⟨i.val % 256, Nat.mod_lt _ (by decide)⟩ ⟨j.val % 128, Nat.mod_lt _ (by decide)⟩ : S256x128.Idx) :=
    eq_ix2 (n0 := 256) (n1 := 128) _
  rw [e]
  refine (mineX_apply m _ _ _ _).trans ?_
  refine congrArg₂ (total m) (Fin.ext ?_) (Fin.ext ?_)
  · show 256 * (i.val / 256) + i.val % 256 = i.val; omega
  · show 128 * (j.val / 128) + j.val % 128 = j.val; omega

end Cert.KProof

end
-- ==== Proof.Whole.lean ====
/-
# The reference, and the equation

The reference computes one product over the 1024 inner positions and cuts it at zero. Device `d` holds the inner positions
from `256 d` on, of both arguments, so the sum over the 1024 positions is the sum over the four devices of the sums over
their 256.
-/
module

public import proofs.«01_k».proof.Proof.Holds
public import proofs.«01_k».proof.Proof.Gen.ReferenceIdeal.Run
public import Idealize.ShloMosaic.Lib.Layout
public import Idealize.ShloMosaic.Lib.StackMember

@[expose] public section

set_option maxRecDepth 16384

noncomputable section

namespace Cert.KProof

open Idealize.ShloMosaic Idealize.ShloMosaic.TcCoe Idealize.ShloMosaic.ValueIdx
open scoped BigOperators

/-- The first and the second argument of the reference, and its result. -/
abbrev WholeA := (⟨2, ![512, 1024]⟩ : Shape).Idx → EReal
abbrev WholeB := (⟨2, ![1024, 512]⟩ : Shape).Idx → EReal
abbrev WholeC := (⟨2, ![512, 512]⟩ : Shape).Idx → EReal

/-- What the reference computes from its two arguments, as printed. -/
def refOut (A : WholeA) (B : WholeB) : WholeC :=
  maximumf (F := Ideal) (φ := .f32) (Host.dotGeneral (F := Ideal) (φ₁ := .f32) (φ₂ := .f32) Cert.ReferenceIdeal.dot_S512x1024_S1024x512_S512x512_1_0_0_1_n_n none A B)
    (broadcastInDim Cert.ReferenceIdeal.S512x512 ![] Cert.ReferenceIdeal.Facts₀.bcast_S_S512x512 (constant (F := Ideal) Cert.ReferenceIdeal.S_ .f32 0x00000000#32))

/-- The reference at row `i` and column `j`. -/
theorem refOut_apply (A : WholeA) (B : WholeB) (i j : Fin 512) :
    refOut A B (ix2 i j) = max (∑ k : Fin 1024, A (ix2 i k) * B (ix2 k j)) 0 :=
  (congrArg (fun s : EReal => max _ s) Ideal.ofBits_zero_f32).trans
    (congrArg (fun s : EReal => max s 0) (Idealize.ShloMosaic.StackMember.dotGeneral_plain_apply (m := 512) (k := 1024) (n := 512) (φ₁ := .f32) (φ₂ := .f32) none A B i j))

/-- The inner position that place `k` of device `d` is. -/
def inner (d : Fin 4) (k : Fin 256) : Fin 1024 := ⟨d.val * 256 + k.val, by have := d.isLt; have := k.isLt; omega⟩

/-- The sum over the inner positions, device by device. -/
theorem sum_inner (f : Fin 1024 → EReal) : ∑ d : Fin 4, ∑ k : Fin 256, f (inner d k) = ∑ k : Fin 1024, f k := by
  rw [← Fintype.sum_prod_type']
  refine Fintype.sum_equiv (finProdFinEquiv (m := 4) (n := 256)) _ _ fun x => congrArg f (Fin.ext ?_)
  show x.1.val * 256 + x.2.val = x.2.val + 256 * x.1.val
  omega

theorem block_a (A : WholeA) (d : Fin 4) (i : Fin 512) (k : Fin 256) :
    Layout.block ⟨2, ![512, 256]⟩ ⟨2, ![512, 1024]⟩ 1 4 d A (by decide) (ix2 i k) = A (ix2 i (inner d k)) := by
  refine congrArg A (funext fun a => ?_)
  match a with
  | ⟨0, _⟩ => rfl
  | ⟨1, _⟩ => rfl

theorem block_b (B : WholeB) (d : Fin 4) (k : Fin 256) (j : Fin 512) :
    Layout.block ⟨2, ![256, 512]⟩ ⟨2, ![1024, 512]⟩ 0 4 d B (by decide) (ix2 k j) = B (ix2 (inner d k) j) := by
  refine congrArg B (funext fun a => ?_)
  match a with
  | ⟨0, _⟩ => rfl
  | ⟨1, _⟩ => rfl

variable (m : (ℓ : Loc Cert.KernelIdeal.nD Cert.KernelIdeal.τ Cert.KernelIdeal.sig) → Buf (Elt Ideal) ℓ)

/-- THE EQUATION: where each device holds its blocks of the two arguments, its result array is what the reference computes
    from the whole arguments. -/
theorem resultAt_refOut (A : WholeA) (B : WholeB)
    (ha : ∀ d : Dev Cert.KernelIdeal.nD, m ((d.tc : Thread Cert.KernelIdeal.nD Cert.KernelIdeal.τ).loc Cert.KernelIdeal.main_arg0)
      = Layout.block ⟨2, ![512, 256]⟩ ⟨2, ![512, 1024]⟩ 1 4 d A (by decide))
    (hb : ∀ d : Dev Cert.KernelIdeal.nD, m ((d.tc : Thread Cert.KernelIdeal.nD Cert.KernelIdeal.τ).loc Cert.KernelIdeal.main_arg1)
      = Layout.block ⟨2, ![256, 512]⟩ ⟨2, ![1024, 512]⟩ 0 4 d B (by decide))
    (c : Dev Cert.KernelIdeal.nD) : (resultAt m c : WholeC) = refOut A B := by
  funext x
  rw [eq_ix2 x]
  refine (resultAt_apply m c (x 0) (x 1)).trans (Eq.trans ?_ (refOut_apply A B (x 0) (x 1)).symm)
  unfold total
  refine congrArg (fun s : EReal => max s 0) (Eq.trans ?_ (sum_inner fun k => A (ix2 (x 0) k) * B (ix2 k (x 1))))
  refine Finset.sum_congr rfl fun d _ => Finset.sum_congr rfl fun k _ => congrArg₂ (· * ·) ?_ ?_
  · exact (congrFun (ha d) _).trans (block_a A d (x 0) k)
  · exact (congrFun (hb d) _).trans (block_b B d k (x 1))

end Cert.KProof

end
-- ==== Proof.lean ====
/-
# The claims, assembled

The run of the kernel on its four devices is proved in Launch.lean, for any float values; the value of its result array is
in Whole.lean. Here each claim is read off them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import Idealize.ShloMosaic.Lib.Tactic
public import Idealize.ShloMosaic.Adequacy
public import Idealize.ShloMosaic.Init

@[expose] public section

noncomputable section

namespace Cert.Proof

open Idealize.ShloMosaic Idealize.SL.Sem Cert.KProof

/-- The printed kernel and its idealized reading have one table of bodies, over any float values. -/
theorem defs_same (F : FTy → Type) [FloatOps F] : Cert.Kernel.defs (F := F) = Cert.KernelIdeal.defs (F := F) := by sl_kernel_rfl

/-- The kernel as printed, at the machine's floats: it runs, its arguments end unchanged, and every counter ends at zero. The two
    programs have one text, so the run of the idealized one, which is proved for any float values, is read here. -/
theorem frame_kernel : Cert.quiescent_Kernel := by
  intro m ρ _
  rw [defs_same]
  exact (θ_run (Cert.KernelIdeal.defs (F := Bits)) _ _).mono (fun _ h => ⟨fun c => ⟨(h.1 c).1, (h.1 c).2.1⟩, h.2⟩) (run_main (F := Bits) m ρ)

/-- The same for the kernel at the exact values. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference runs, its arguments end unchanged, and it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where each device holds its block of columns of the first argument and its block of rows of the second, every device's
    result array ends holding the whole result of the reference, at the exact values. -/
theorem value : Cert.algebraic_KernelIdeal_ReferenceIdeal := fun m ρ m' ρ' _ hargs =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (resultAt_refOut m _ _ (fun d => (hargs d).1) (fun d => (hargs d).2) c), (h.1 c).1, (h.1 c).2.1⟩)
      (run_main (F := Ideal) m ρ),
    (θ_run Cert.ReferenceIdeal.defs _ _).mono (fun _ h => h 0) (Cert.ReferenceIdeal.Value.run (F := Ideal) m' ρ')⟩

/-- Everything claimed. No operation was rewritten, so that claim is trivial. -/
theorem claim : Cert.Claim := ⟨Cert.Kernel.Gen.facts, Cert.KernelIdeal.Gen.facts, Cert.ReferenceIdeal.Gen.facts,
  frame_kernel, frame_ideal, frame_reference, trivial, value⟩

end Cert.Proof

end
